-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x640 : Shape := ⟨3, ![2, 2048, 640]⟩
abbrev S2x2048x80 : Shape := ⟨3, ![2, 2048, 80]⟩
abbrev S1 : Shape := ⟨1, ![1]⟩
abbrev S16384x640 : Shape := ⟨2, ![16384, 640]⟩
abbrev S16384x80 : Shape := ⟨2, ![16384, 80]⟩
abbrev S4096x640 : Shape := ⟨2, ![4096, 640]⟩
abbrev S4096x80 : Shape := ⟨2, ![4096, 80]⟩
abbrev S4096x16384 : Shape := ⟨2, ![4096, 16384]⟩
abbrev S4096x128 : Shape := ⟨2, ![4096, 128]⟩
abbrev S512x640 : Shape := ⟨2, ![512, 640]⟩
abbrev S512x128 : Shape := ⟨2, ![512, 128]⟩
abbrev S4096x512 : Shape := ⟨2, ![4096, 512]⟩
abbrev S4096x1280 : Shape := ⟨2, ![4096, 1280]⟩
abbrev S256x640 : Shape := ⟨2, ![256, 640]⟩
abbrev S256x128 : Shape := ⟨2, ![256, 128]⟩
abbrev S64x640 : Shape := ⟨2, ![64, 640]⟩
abbrev S256x128x1 : Shape := ⟨3, ![256, 128, 1]⟩
abbrev S64x128 : Shape := ⟨2, ![64, 128]⟩
abbrev S256x1280 : Shape := ⟨2, ![256, 1280]⟩
abbrev S128x640 : Shape := ⟨2, ![128, 640]⟩
abbrev S512x128x1 : Shape := ⟨3, ![512, 128, 1]⟩
abbrev S128x128 : Shape := ⟨2, ![128, 128]⟩
abbrev S512x1280 : Shape := ⟨2, ![512, 1280]⟩

abbrev nBuf : Space → Nat
  | .hbm => 9
  | .vmem => 9
  | .smem => 2
  | _ => 0

abbrev bufTy : (tb : Table) → Fin (tcTables nBuf tb) → BufTy
  | .hbm, ⟨0, _⟩ => ⟨S2x2048x640, .i8⟩
  | .hbm, ⟨1, _⟩ => ⟨S2x2048x80, .fp8e4m3⟩
  | .hbm, ⟨2, _⟩ => ⟨S1, .f32⟩
  | .hbm, ⟨3, _⟩ => ⟨S16384x640, .i8⟩
  | .hbm, ⟨4, _⟩ => ⟨S16384x80, .fp8e4m3⟩
  | .hbm, ⟨5, _⟩ => ⟨S1, .f32⟩
  | .hbm, ⟨6, _⟩ => ⟨S4096x640, .i8⟩
  | .hbm, ⟨7, _⟩ => ⟨S4096x80, .fp8e4m3⟩
  | .hbm, ⟨8, _⟩ => ⟨S4096x16384, .bf16⟩
  | .local _ .vmem, ⟨0, _⟩ => ⟨S4096x640, .i8⟩
  | .local _ .vmem, ⟨1, _⟩ => ⟨S4096x128, .fp8e4m3⟩
  | .local _ .vmem, ⟨2, _⟩ => ⟨S512x640, .i8⟩
  | .local _ .vmem, ⟨3, _⟩ => ⟨S512x640, .i8⟩
  | .local _ .vmem, ⟨4, _⟩ => ⟨S512x128, .fp8e4m3⟩
  | .local _ .vmem, ⟨5, _⟩ => ⟨S512x128, .fp8e4m3⟩
  | .local _ .vmem, ⟨6, _⟩ => ⟨S4096x512, .bf16⟩
  | .local _ .vmem, ⟨7, _⟩ => ⟨S4096x512, .bf16⟩
  | .local _ .vmem, ⟨8, _⟩ => ⟨S4096x1280, .bf16⟩
  | .local _ .smem, ⟨0, _⟩ => ⟨S1, .f32⟩
  | .local _ .smem, ⟨1, _⟩ => ⟨S1, .f32⟩
  | _, _ => ⟨S2x2048x640, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_28 : BitVec 32 := 0#32
  let c16_i32_29 : BitVec 32 := 16#32
  let v154 : BitVec 32 := Scalar.addi c0_i32_28 c16_i32_29
  let c1_i32_30 : BitVec 32 := 1#32
  ⟨c0_i32_28, v154, c1_i32_30⟩
def k0_mult1 (k0_t1 : Fin k0_t1_loop.trips) : BitVec 32 :=
  let c0_i32_33 : BitVec 32 := 0#32
  let c0_i32_28 : BitVec 32 := 0#32
  let c1_i32_30 : BitVec 32 := 1#32
  let arg9 : BitVec 32 := Scf.iv c0_i32_28 c1_i32_30 k0_t1
  let c1_i32_32 : BitVec 32 := 1#32
  let v155 : BitVec 32 := Scalar.muli arg9 c1_i32_32
  let v156 : BitVec 32 := Scalar.addi c0_i32_33 v155
  let c256_i32 : BitVec 32 := 256#32
  let v157 : BitVec 32 := Scalar.muli v156 c256_i32
  v157
def k0_off1 (k0_t1 : Fin k0_t1_loop.trips) : Fin 2 → Nat :=
  let c0_i32_33 : BitVec 32 := 0#32
  let c0_i32_28 : BitVec 32 := 0#32
  let c1_i32_30 : BitVec 32 := 1#32
  let arg9 : BitVec 32 := Scf.iv c0_i32_28 c1_i32_30 k0_t1
  let c1_i32_32 : BitVec 32 := 1#32
  let v155 : BitVec 32 := Scalar.muli arg9 c1_i32_32
  let v156 : BitVec 32 := Scalar.addi c0_i32_33 v155
  let c256_i32 : BitVec 32 := 256#32
  let v157 : BitVec 32 := Scalar.muli v156 c256_i32
  let v158 : BitVec 32 := v157
  let v159 : Index := Scalar.indexCast v158
  let c0_34 : Index := 0#32
  ![v159.toNat, 0]
def k0_off2 (k0_t1 : Fin k0_t1_loop.trips) : Fin 2 → Nat :=
  let c0_i32_33 : BitVec 32 := 0#32
  let c0_i32_28 : BitVec 32 := 0#32
  let c1_i32_30 : BitVec 32 := 1#32
  let arg9 : BitVec 32 := Scf.iv c0_i32_28 c1_i32_30 k0_t1
  let c1_i32_32 : BitVec 32 := 1#32
  let v155 : BitVec 32 := Scalar.muli arg9 c1_i32_32
  let v156 : BitVec 32 := Scalar.addi c0_i32_33 v155
  let c256_i32 : BitVec 32 := 256#32
  let v157 : BitVec 32 := Scalar.muli v156 c256_i32
  let v158 : BitVec 32 := v157
  let v162 : Index := Scalar.indexCast v158
  let c0_35 : Index := 0#32
  ![v162.toNat, 0]
def k0_off3 (k0_t1 : Fin k0_t1_loop.trips) : Fin 2 → Nat :=
  let c0_i32_33 : BitVec 32 := 0#32
  let c0_i32_28 : BitVec 32 := 0#32
  let c1_i32_30 : BitVec 32 := 1#32
  let arg9 : BitVec 32 := Scf.iv c0_i32_28 c1_i32_30 k0_t1
  let c1_i32_32 : BitVec 32 := 1#32
  let v155 : BitVec 32 := Scalar.muli arg9 c1_i32_32
  let v156 : BitVec 32 := Scalar.addi c0_i32_33 v155
  let c256_i32 : BitVec 32 := 256#32
  let v157 : BitVec 32 := Scalar.muli v156 c256_i32
  let v158 : BitVec 32 := v157
  let v314 : Index := Scalar.indexCast v158
  let c0_70 : Index := 0#32
  ![v314.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x640 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x640 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x2048x640 : Shape := ⟨3, ![2, 2048, 640]⟩
abbrev S2x2048x80 : Shape := ⟨3, ![2, 2048, 80]⟩
abbrev S1 : Shape := ⟨1, ![1]⟩
abbrev S16384x640 : Shape := ⟨2, ![16384, 640]⟩
abbrev S16384x80 : Shape := ⟨2, ![16384, 80]⟩
abbrev S4096x640 : Shape := ⟨2, ![4096, 640]⟩
abbrev S4096x80 : Shape := ⟨2, ![4096, 80]⟩
abbrev S4096x16384 : Shape := ⟨2, ![4096, 16384]⟩
abbrev S4096x80x1 : Shape := ⟨3, ![4096, 80, 1]⟩
abbrev S4096x80x8 : Shape := ⟨3, ![4096, 80, 8]⟩
abbrev S16384x80x1 : Shape := ⟨3, ![16384, 80, 1]⟩
abbrev S16384x80x8 : Shape := ⟨3, ![16384, 80, 8]⟩

abbrev nBuf : Space → Nat
  | .hbm => 9
  | .vmem => 5
  | .smem => 2
  | _ => 0

abbrev bufTy : (tb : Table) → Fin (tcTables nBuf tb) → BufTy
  | .hbm, ⟨0, _⟩ => ⟨S2x2048x640, .i8⟩
  | .hbm, ⟨1, _⟩ => ⟨S2x2048x80, .fp8e4m3⟩
  | .hbm, ⟨2, _⟩ => ⟨S1, .f32⟩
  | .hbm, ⟨3, _⟩ => ⟨S16384x640, .i8⟩
  | .hbm, ⟨4, _⟩ => ⟨S16384x80, .fp8e4m3⟩
  | .hbm, ⟨5, _⟩ => ⟨S1, .f32⟩
  | .hbm, ⟨6, _⟩ => ⟨S4096x640, .i8⟩
  | .hbm, ⟨7, _⟩ => ⟨S4096x80, .fp8e4m3⟩
  | .hbm, ⟨8, _⟩ => ⟨S4096x16384, .bf16⟩
  | .local _ .vmem, ⟨0, _⟩ => ⟨S4096x640, .i8⟩
  | .local _ .vmem, ⟨1, _⟩ => ⟨S4096x80, .fp8e4m3⟩
  | .local _ .vmem, ⟨2, _⟩ => ⟨S16384x640, .i8⟩
  | .local _ .vmem, ⟨3, _⟩ => ⟨S16384x80, .fp8e4m3⟩
  | .local _ .vmem, ⟨4, _⟩ => ⟨S4096x16384, .bf16⟩
  | .local _ .smem, ⟨0, _⟩ => ⟨S1, .f32⟩
  | .local _ .smem, ⟨1, _⟩ => ⟨S1, .f32⟩
  | _, _ => ⟨S2x2048x640, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg6_0 : Ref sig .tc := ⟨.vmem, 4, rfl⟩
abbrev cc0_stg2_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4096x640 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x80 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x640 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x80 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x16384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRuns.lean ====
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## From a run of the pipeline to the claim -/

/-- A run that leaves each input array of the pipeline, and every buffer the pipeline does not touch, as the kernel found it
    leaves the six arguments as launched. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 0 rfl).trans ((hA c 0).trans (V_main_arg2 m c)),
      (Pipeline.RDat.FramePost.arr_in h c 4 rfl).trans ((hA c 4).trans (V_main_arg3 m c)),
      (Pipeline.RDat.FramePost.arr_in h c 5 rfl).trans ((hA c 5).trans (V_main_arg4 m c)),
      (Pipeline.RDat.FramePost.arr_in h c 1 rfl).trans ((hA c 1).trans (V_main_arg5 m c))⟩) h

/-! ## The body's branch conditions -/

/-- The condition of the body's one branch, from the grid coordinates. -/
abbrev cond0_0 (i : grid0.Coords) : Prop := k0_cond1 i = 1#1
/-- It holds at the first point only. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

/-! ## The buffers the body is called on -/

/-- Each window's staging buffer at point `t`, and that it is a whole buffer. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x640 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x640 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x512 .bf16 := win0_6.stage (cfg0.slots t 6)
abbrev hs0_6 (t : Fin cfg0.N) : (ms0_6 t).IsWhole := hstage0_6 ((cfg0.slots t 6).cast nbuf0_6)
/-- The scratch buffer. -/
abbrev scM0_0 : Memref sig .tc .vmem S4096x1280 .bf16 := Memref.whole cc0_scratch0

/-- What the kernel owns beside its windows: the scratch buffer at some contents, and the random generator's register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Run

end
-- ==== Proof.KernelRunA.lean ====
module

public import proofs.«01_k».proof.Proof.KernelRuns

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof is long: checking it takes more than the default budget
set_option maxHeartbeats 1000000 in
/-- The body at the first point, from buffers that hold its operands: it ends, its operands' buffers hold what they held, and the output's and the
    scratch buffer hold something. -/
theorem kernelRun0_A (c : Dev nD) (i : grid0.Coords) (arg1 : Memref sig .tc .smem S1 .f32) (harg1 : arg1.IsWhole) (arg2 : Memref sig .tc .smem S1 .f32) (harg2 : arg2.IsWhole) (arg3 : Memref sig .tc .vmem S4096x640 .i8) (harg3 : arg3.IsWhole) (arg4 : Memref sig .tc .vmem S4096x128 .fp8e4m3) (harg4 : arg4.IsWhole) (arg5 : Memref sig .tc .vmem S512x640 .i8) (harg5 : arg5.IsWhole) (arg6 : Memref sig .tc .vmem S512x128 .fp8e4m3) (harg6 : arg6.IsWhole) (arg7 : Memref sig .tc .vmem S4096x512 .bf16) (harg7 : arg7.IsWhole) (arg8 : Memref sig .tc .vmem S4096x1280 .bf16) (harg8 : arg8.IsWhole) (hc0 : cond0_0 i)
    (x0 : Vec F S1 .f32) (x1 : Vec F S1 .f32) (x2 : Vec F S4096x640 .i8) (x3 : Vec F S4096x128 .fp8e4m3) (x4 : Vec F S512x640 .i8) (x5 : Vec F S512x128 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)) -∗ K ⟨⟩))
          ⊢ wp frame (wpE (defs₀ (F := F)) Variants.none c none) E (cc0_nvfp4_dgrad i arg1 harg1 arg2 harg2 arg3 harg3 arg4 harg4 arg5 harg5 arg6 harg6 arg7 harg7 arg8 harg8) K := by
    intro E K
    simp only [cc0_nvfp4_dgrad_eq_skeleton]; unfold cc0_nvfp4_dgrad_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    iexists _, _; isplitr; swap; · iexact HS0
    ipureintro; rfl

end Cert.Kernel.Run

end
-- ==== Proof.KernelRunB.lean ====
module

public import proofs.«01_k».proof.Proof.KernelRunA

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof is long: checking it takes more than the default budget
set_option maxHeartbeats 1000000 in
/-- The body at a later point, from buffers that hold its operands: it ends, its operands' buffers hold what they held, and the output's and the
    scratch buffer hold something. -/
theorem kernelRun0_B (c : Dev nD) (i : grid0.Coords) (arg1 : Memref sig .tc .smem S1 .f32) (harg1 : arg1.IsWhole) (arg2 : Memref sig .tc .smem S1 .f32) (harg2 : arg2.IsWhole) (arg3 : Memref sig .tc .vmem S4096x640 .i8) (harg3 : arg3.IsWhole) (arg4 : Memref sig .tc .vmem S4096x128 .fp8e4m3) (harg4 : arg4.IsWhole) (arg5 : Memref sig .tc .vmem S512x640 .i8) (harg5 : arg5.IsWhole) (arg6 : Memref sig .tc .vmem S512x128 .fp8e4m3) (harg6 : arg6.IsWhole) (arg7 : Memref sig .tc .vmem S4096x512 .bf16) (harg7 : arg7.IsWhole) (arg8 : Memref sig .tc .vmem S4096x1280 .bf16) (harg8 : arg8.IsWhole) (hc0 : ¬cond0_0 i)
    (x0 : Vec F S1 .f32) (x1 : Vec F S1 .f32) (x2 : Vec F S4096x640 .i8) (x3 : Vec F S4096x128 .fp8e4m3) (x4 : Vec F S512x640 .i8) (x5 : Vec F S512x128 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)) -∗ K ⟨⟩))
          ⊢ wp frame (wpE (defs₀ (F := F)) Variants.none c none) E (cc0_nvfp4_dgrad i arg1 harg1 arg2 harg2 arg3 harg3 arg4 harg4 arg5 harg5 arg6 harg6 arg7 harg7 arg8 harg8) K := by
    intro E K
    simp only [cc0_nvfp4_dgrad_eq_skeleton]; unfold cc0_nvfp4_dgrad_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    iexists _, _; isplitr; swap; · iexact HS0
    ipureintro; rfl

end Cert.Kernel.Run

end
-- ==== Proof.KernelFrame.lean ====
module

public import proofs.«01_k».proof.Proof.KernelRunB
public import Idealize.ShloMosaic.Lib.Claim

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The windows of which nothing is stated: the output, and the two scale windows, which overhang their arrays. -/
def forgets0 : Fin 7 → Bool := fun w => w.val == 3 || w.val == 5 || w.val == 6

/-- The proof data of the pipeline on core `c`: the arrays as the kernel finds them, the buffers of the codes and of
    the global scales at their blocks, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The arrays of the proof data are the arrays as the kernel finds them. -/
theorem A_eq (c : Dev nD) (w : Fin cfg0.W) : (dats m 0 c).A w = V m c (Pipeline.arrRef spec0 w) := by
  dsimp only [dats]

/-- What the body leaves in the buffers of the global scales and of the codes: their blocks. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_4 (c : Dev nD) (t : Fin cfg0.N) : (dats m 0 c).after 4 t = iblk m c 4 t := by dsimp only [dats]

/-- The buffers of the global scales and of the codes hold their blocks at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d))

set_option maxHeartbeats 1600000 in
/-- The body at any point: the first point's run or a later point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_4]
  rw [show (dats m 0 c).Φ t.succ = (dats m 0 c).Φ t.castSucc from rfl,
    show (dats m 0 c).owesAt () t.succ = (dats m 0 c).owesAt () t.castSucc from rfl,
    after0_0, after0_1, after0_2, after0_4]
  rw [show (dats m 0 c).Φ t.castSucc = Pipeline.ΦA spec0 c from rfl, PhiA0_eq]
  have hN : t.val < 32 := lt_of_lt_of_eq t.isLt (show cfg0.N = 32 from N_0)
  by_cases h0 : t.val % 32 = 0
  · iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ ((hcond0_0 t).mpr h0) (iblk m c 0 t) (iblk m c 1 t) (iblk m c 2 t) d3 (iblk m c 4 t) d5) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexists _; iexact H3
    isplitl [H4]; · iexact H4
    isplitl [H5]; · iexists _; iexact H5
    iexact H6
  · iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ (fun h => h0 ((hcond0_0 t).mp h)) (iblk m c 0 t) (iblk m c 1 t) (iblk m c 2 t) d3 (iblk m c 4 t) d5) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexists _; iexact H3
    isplitl [H4]; · iexact H4
    isplitl [H5]; · iexists _; iexact H5
    iexact H6

/-- The body table's row at point `t`'s buffers is the body at that point. -/
theorem defs₀_row (t : Fin cfg0.N) :
    defs₀ (F := F) .tc cfg0.body (cfg0.bodyArgs t (cfg0.slots t)) = bodyAt0 t := by
  unfold defs₀; rw [Defs.onTc_tc]

/-- The body keeps the proof data at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the launch theorem's implicit arguments are found by unifying its conclusion with this one, which takes unfolding plain
-- definitions in a metavariable's type
set_option backward.isDefEq.respectTransparency.types false in
/-- Every run ends with the input arrays as the kernel found them, and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends with the input arrays as the kernel found them; nothing is stated of the result. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Every run ends with the argument arrays unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- Every run ends, leaves the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Run

end
-- ==== Proof.IdealRuns.lean ====
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's one branch, from the grid coordinates. -/
abbrev cond0_0 (i : grid0.Coords) : Prop := k0_cond1 i = 1#1
/-- It holds at the first point only. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

/-! ## The buffers the body is called on -/

/-- A view of the output's staging buffer, through which its contents are stated. -/
abbrev VO0_6 : View sig .tc .vmem S4096x512 .bf16 := (Memref.whole cc0_stg6_0 : Memref sig .tc .vmem S4096x512 .bf16).view
/-- Each window's staging buffer at point `t`, and that it is a whole buffer. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x640 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x640 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x512 .bf16 := win0_6.stage (cfg0.slots t 6)
abbrev hs0_6 (t : Fin cfg0.N) : (ms0_6 t).IsWhole := hstage0_6 ((cfg0.slots t 6).cast nbuf0_6)
/-- The scratch buffer. -/
abbrev scM0_0 : Memref sig .tc .vmem S4096x1280 .bf16 := Memref.whole cc0_scratch0
/-- The scratch buffer as a view. -/
abbrev VS0_0 : View sig .tc .vmem S4096x1280 .bf16 := scM0_0.view

/-- What the kernel owns beside its windows: the scratch buffer at some contents, and the random generator's register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Run

end
-- ==== Proof.IdealRunA.lean ====
module

public import proofs.«01_k».proof.Proof.IdealRuns

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof is long: checking it takes more than the default budget
set_option backward.proofsInPublic true in
set_option maxHeartbeats 1000000 in
/-- The body at the first point, from buffers that hold its operands: the list of its stores (the decoded left operand and the output block), with the proof that it ends, its
    operands' buffers hold what they held, and the buffers it writes hold those stores. -/
noncomputable def kernelRun0_A (c : Dev nD) (i : grid0.Coords) (arg1 : Memref sig .tc .smem S1 .f32) (harg1 : arg1.IsWhole) (arg2 : Memref sig .tc .smem S1 .f32) (harg2 : arg2.IsWhole) (arg3 : Memref sig .tc .vmem S4096x640 .i8) (harg3 : arg3.IsWhole) (arg4 : Memref sig .tc .vmem S4096x128 .fp8e4m3) (harg4 : arg4.IsWhole) (arg5 : Memref sig .tc .vmem S512x640 .i8) (harg5 : arg5.IsWhole) (arg6 : Memref sig .tc .vmem S512x128 .fp8e4m3) (harg6 : arg6.IsWhole) (arg7 : Memref sig .tc .vmem S4096x512 .bf16) (harg7 : arg7.IsWhole) (arg8 : Memref sig .tc .vmem S4096x1280 .bf16) (harg8 : arg8.IsWhole) (hc0 : cond0_0 i)
    (x0 : Vec F S1 .f32) (x1 : Vec F S1 .f32) (x2 : Vec F S4096x640 .i8) (x3 : Vec F S4096x128 .fp8e4m3) (x4 : Vec F S512x640 .i8) (x5 : Vec F S512x128 .fp8e4m3) :
    Σ' (L6 : List (View.Piece (Elt F) S4096x512 .bf16)), { LS0 : List (View.Piece (Elt F) S4096x1280 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc0_nvfp4_dgrad i arg1 harg1 arg2 harg2 arg3 harg3 arg4 harg4 arg5 harg5 arg6 harg6 arg7 harg7 arg8 harg8) K } := by
  refine ⟨?_, ?_, fun E K => ?run⟩
  case run =>
    simp only [cc0_nvfp4_dgrad_eq_skeleton]; unfold cc0_nvfp4_dgrad_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    have hrd0 : ∀ (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S4096x640 .i8) (harg3 : arg3.IsWhole) (arg4 : Memref sig .tc .vmem S4096x128 .fp8e4m3) (harg4 : arg4.IsWhole) (arg5 : Memref sig .tc .vmem S512x640 .i8) (harg5 : arg5.IsWhole) (arg6 : Memref sig .tc .vmem S512x128 .fp8e4m3) (harg6 : arg6.IsWhole) (arg7 : Memref sig .tc .vmem S4096x512 .bf16) (harg7 : arg7.IsWhole) (arg8 : Memref sig .tc .vmem S4096x1280 .bf16) (harg8 : arg8.IsWhole) (k0_h1 : k0_cond1 i = 1#1) (X_arg3 : BufTy.Contents (Elt F) arg3.view.ty) (X_arg4 : BufTy.Contents (Elt F) arg4.view.ty) (hrdF : BufTy.Contents (Elt F) arg8.view.ty) (hrdB : LoadRect S4096x1280), arg8.view.readAt (Elt F) hrdB (arg8.view.writes (Elt F) hrdF (pb_k0_t1 (F := F) 𝒱 c bd i arg1 harg1 arg2 harg2 arg3 harg3 arg4 harg4 arg5 harg5 arg6 harg6 arg7 harg7 arg8 harg8 k0_h1 X_arg3 X_arg4 (Scf.trips k0_t1_loop.lb k0_t1_loop.ub k0_t1_loop.st))) = arg8.view.readCov (pb_k0_t1 (F := F) 𝒱 c bd i arg1 harg1 arg2 harg2 arg3 harg3 arg4 harg4 arg5 harg5 arg6 harg6 arg7 harg7 arg8 harg8 k0_h1 X_arg3 X_arg4 (Scf.trips k0_t1_loop.lb k0_t1_loop.ub k0_t1_loop.st)) hrdB := fun 𝒱 c bd i arg1 harg1 arg2 harg2 arg3 harg3 arg4 harg4 arg5 harg5 arg6 harg6 arg7 harg7 arg8 harg8 k0_h1 X_arg3 X_arg4 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 k0_h1 X_arg3 X_arg4 (Scf.trips k0_t1_loop.lb k0_t1_loop.ub k0_t1_loop.st)) S256x1280.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.KernelIdeal.Run

end
-- ==== Proof.IdealRunB.lean ====
module

public import proofs.«01_k».proof.Proof.IdealRuns

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof is long: checking it takes more than the default budget
set_option maxHeartbeats 1000000 in
/-- The body at a later point, from buffers that hold its operands: the list of its stores (the output block), with the proof that it ends, its
    operands' buffers hold what they held, and the buffers it writes hold those stores. -/
noncomputable def kernelRun0_B (c : Dev nD) (i : grid0.Coords) (arg1 : Memref sig .tc .smem S1 .f32) (harg1 : arg1.IsWhole) (arg2 : Memref sig .tc .smem S1 .f32) (harg2 : arg2.IsWhole) (arg3 : Memref sig .tc .vmem S4096x640 .i8) (harg3 : arg3.IsWhole) (arg4 : Memref sig .tc .vmem S4096x128 .fp8e4m3) (harg4 : arg4.IsWhole) (arg5 : Memref sig .tc .vmem S512x640 .i8) (harg5 : arg5.IsWhole) (arg6 : Memref sig .tc .vmem S512x128 .fp8e4m3) (harg6 : arg6.IsWhole) (arg7 : Memref sig .tc .vmem S4096x512 .bf16) (harg7 : arg7.IsWhole) (arg8 : Memref sig .tc .vmem S4096x1280 .bf16) (harg8 : arg8.IsWhole) (hc0 : ¬cond0_0 i)
    (x0 : Vec F S1 .f32) (x1 : Vec F S1 .f32) (x2 : Vec F S4096x640 .i8) (x3 : Vec F S4096x128 .fp8e4m3) (x4 : Vec F S512x640 .i8) (x5 : Vec F S512x128 .fp8e4m3) (xs0 : Vec F S4096x1280 .bf16) :
    Σ' (L6 : List (View.Piece (Elt F) S4096x512 .bf16)), { LS0 : List (View.Piece (Elt F) S4096x1280 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xs0) -∗ K ⟨⟩))
          ⊢ wp frame (wpE (defs₀ (F := F)) Variants.none c none) E (cc0_nvfp4_dgrad i arg1 harg1 arg2 harg2 arg3 harg3 arg4 harg4 arg5 harg5 arg6 harg6 arg7 harg7 arg8 harg8) K } := by
  refine ⟨?_, [], fun E K => ?run⟩
  case run =>
    simp only [cc0_nvfp4_dgrad_eq_skeleton]; unfold cc0_nvfp4_dgrad_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; isplitr; · ipureintro; exact harg8.read_unread _
    iexact HS0

end Cert.KernelIdeal.Run

end
-- ==== Proof.DecodeBits.lean ====
module

public import Idealize.ShloMosaic.Lib.BitcastFour
public import Idealize.ShloMosaic.PureOps.Ideal
public import Mathlib.Tactic.IntervalCases
public import Mathlib.Tactic.NormNum

@[expose] public section

set_option maxRecDepth 16384

noncomputable section

/-!
The bits of one packed byte. A byte holds two four-bit floats (one sign bit, two exponent bits, one
fraction bit). The kernel moves each of them into the bit positions of an eight-bit float, on words of
four bytes at once; here is what one byte of such a word is, and which real number it denotes: the
four-bit float divided by 64.
-/

namespace Cert.Decode

open Idealize.ShloMosaic

/-- The magnitude of the four-bit float with the three low bits `b0 b1 b2`. -/
def mag (b0 b1 b2 : Bool) : ℝ :=
  bif b2 then (bif b1 then (bif b0 then 6 else 4) else (bif b0 then 3 else 2))
  else (bif b1 then (bif b0 then 3/2 else 1) else (bif b0 then 1/2 else 0))

/-- The four-bit float with bits `b0 b1 b2` and sign `b3`. -/
def e2m1 (b0 b1 b2 b3 : Bool) : ℝ := bif b3 then -(mag b0 b1 b2) else mag b0 b1 b2

/-- The float in the low half of a byte. -/
def loV (c : BitVec 8) : ℝ := e2m1 (c.getLsbD 0) (c.getLsbD 1) (c.getLsbD 2) (c.getLsbD 3)

/-- The float in the high half of a byte. -/
def hiV (c : BitVec 8) : ℝ := e2m1 (c.getLsbD 4) (c.getLsbD 5) (c.getLsbD 6) (c.getLsbD 7)

/-- The eight-bit pattern of the low half: sign to bit 7, the three others to bits 2, 3 and 4. -/
def lo8 (c : BitVec 8) : BitVec 8 := ((c <<< 4) &&& 128#8) ||| ((c <<< 2) &&& 28#8)

/-- The eight-bit pattern of the high half. -/
def hi8 (c : BitVec 8) : BitVec 8 := (c &&& 128#8) ||| ((c >>> 2) &&& 28#8)

/-- The same for the low halves of the four bytes of a word. -/
def loW (w : BitVec 32) : BitVec 32 := ((w <<< 4) &&& 2155905152#32) ||| ((w <<< 2) &&& 471604252#32)

/-- The same for the high halves of the four bytes of a word. -/
def hiW (w : BitVec 32) : BitVec 32 := (w &&& 2155905152#32) ||| ((w >>> 2) &&& 471604252#32)

/-- The eight-bit pattern with sign `b3` and the bits `b0 b1 b2` at places 2, 3, 4. -/
def pat (b0 b1 b2 b3 : Bool) : BitVec 8 :=
  BitVec.ofNat 8 (b0.toNat * 4 + b1.toNat * 8 + b2.toNat * 16 + b3.toNat * 128)

theorem lo8_pat (c : BitVec 8) : lo8 c = pat (c.getLsbD 0) (c.getLsbD 1) (c.getLsbD 2) (c.getLsbD 3) := by
  revert c; decide +kernel

theorem hi8_pat (c : BitVec 8) : hi8 c = pat (c.getLsbD 4) (c.getLsbD 5) (c.getLsbD 6) (c.getLsbD 7) := by
  revert c; decide +kernel

/-- What the pattern denotes: the four-bit float over 64. -/
theorem e4m3fn_pat (b0 b1 b2 b3 : Bool) : Ideal.e4m3fn (pat b0 b1 b2 b3) = ((e2m1 b0 b1 b2 b3 / 64 : ℝ) : EReal) := by
  cases b0 <;> cases b1 <;> cases b2 <;> cases b3 <;>
    simp [Ideal.e4m3fn, pat, e2m1, mag, -EReal.coe_mul, -EReal.coe_neg] <;> norm_num [zpow_neg, -EReal.coe_mul, -EReal.coe_neg]

theorem e4m3fn_lo8 (c : BitVec 8) : Ideal.e4m3fn (lo8 c) = ((loV c / 64 : ℝ) : EReal) := by
  rw [lo8_pat, e4m3fn_pat, loV]

theorem e4m3fn_hi8 (c : BitVec 8) : Ideal.e4m3fn (hi8 c) = ((hiV c / 64 : ℝ) : EReal) := by
  rw [hi8_pat, e4m3fn_pat, hiV]

/-- If byte `k` of the word `w` is `c`, byte `k` of `loW w` is `lo8 c`. -/
theorem loW_byte (w : BitVec 32) (c : BitVec 8) (k : Nat) (hk : k < 4)
    (h : ∀ b, b < 8 → w.getLsbD (8 * k + b) = c.getLsbD b) (b : Nat) (hb : b < 8) :
    (loW w).getLsbD (8 * k + b) = (lo8 c).getLsbD b := by
  have h0 := h 0 (by omega); have h1 := h 1 (by omega); have h2 := h 2 (by omega); have h3 := h 3 (by omega)
  unfold loW lo8
  interval_cases k <;> interval_cases b <;> simp_all [BitVec.getLsbD_or, BitVec.getLsbD_and, BitVec.getLsbD_shiftLeft, BitVec.getLsbD_eq_getElem]

/-- If byte `k` of the word `w` is `c`, byte `k` of `hiW w` is `hi8 c`. -/
theorem hiW_byte (w : BitVec 32) (c : BitVec 8) (k : Nat) (hk : k < 4)
    (h : ∀ b, b < 8 → w.getLsbD (8 * k + b) = c.getLsbD b) (b : Nat) (hb : b < 8) :
    (hiW w).getLsbD (8 * k + b) = (hi8 c).getLsbD b := by
  have h0 := h 4 (by omega); have h1 := h 5 (by omega); have h2 := h 6 (by omega); have h3 := h 7 (by omega)
  unfold hiW hi8
  interval_cases k <;> interval_cases b <;> simp_all [BitVec.getLsbD_or, BitVec.getLsbD_and, BitVec.getLsbD_ushiftRight]

variable {R q : Nat}

/-- Words of four rows each, changed byte by byte and cut to 128 lanes from lane `o` on, read back as
    bytes: the byte at row `p`, lane `l`, is the change of the byte at row `p`, lane `o + l`. -/
theorem bytes_of_words (f : BitVec 32 → BitVec 32) (g : BitVec 8 → BitVec 8)
    (hfg : ∀ (w : BitVec 32) (c : BitVec 8) (k : Nat), k < 4 → (∀ b, b < 8 → w.getLsbD (8 * k + b) = c.getLsbD b) →
      ∀ b, b < 8 → (f w).getLsbD (8 * k + b) = (g c).getLsbD b)
    (x : (⟨2, ![R, 640]⟩ : Shape).Idx → BitVec 8)
    (h1 : (⟨2, ![R, 640]⟩ : Shape).Bitcasts 8 ⟨2, ![q, 640]⟩ 32)
    (h2 : (⟨2, ![q, 128]⟩ : Shape).Bitcasts 32 ⟨2, ![R, 128]⟩ 8)
    (o : Nat) (ho : o + 128 ≤ 640) (y : (⟨2, ![q, 128]⟩ : Shape).Idx → BitVec 32)
    (hy : ∀ (a : Fin q) (l : Fin 128), y (ValueIdx.ix2 a l)
      = f (bitcast ⟨2, ![q, 640]⟩ 32 x h1 (ValueIdx.ix2 a ⟨o + l.val, by omega⟩)))
    (p : Fin R) (l : Fin 128) :
    bitcast ⟨2, ![R, 128]⟩ 8 y h2 (ValueIdx.ix2 p l) = g (x (ValueIdx.ix2 p ⟨o + l.val, by omega⟩)) := by
  have hR : R * 8 = q * 32 := by
    have := h1.2.2 ⟨0, Nat.zero_lt_two⟩
    simpa using this
  have hp := p.isLt
  obtain ⟨a, ha⟩ : ∃ a : Fin q, a.val = p.val / 4 := ⟨⟨p.val / 4, by omega⟩, rfl⟩
  apply BitVec.eq_of_getLsbD_eq
  intro b hb
  rw [bitcast_getLsbD y h2 _ b hb (by decide)]
  have e1 : (Shape.row ⟨2, ![R, 128]⟩ (ValueIdx.ix2 p l) * 8 + b) / 32 = a.val := by
    show (p.val * 8 + b) / 32 = a.val
    omega
  have e2 : (Shape.row ⟨2, ![R, 128]⟩ (ValueIdx.ix2 p l) * 8 + b) % 32 = 8 * (p.val % 4) + b := by
    show (p.val * 8 + b) % 32 = _
    omega
  rw [e2]
  have e3 : ∀ h0, h2.srcIdx (ValueIdx.ix2 p l) ((Shape.row ⟨2, ![R, 128]⟩ (ValueIdx.ix2 p l) * 8 + b) / 32) h0
      = ValueIdx.ix2 a l := by
    intro h0
    funext c
    match c with
    | ⟨0, _⟩ => exact Fin.ext ((h2.srcIdx_row _ _ _ ⟨0, Nat.zero_lt_two⟩ rfl).trans e1)
    | ⟨1, _⟩ => exact Fin.ext (h2.srcIdx_other _ _ _ ⟨1, Nat.one_lt_two⟩ (by show ¬ 1 + 2 = 2; omega))
  rw [e3, hy a l]
  refine hfg _ _ (p.val % 4) (Nat.mod_lt _ (by decide)) ?_ b hb
  intro b' hb'
  rw [bitcast_8_32_getLsbD_ix2 x h1 a _ (8 * (p.val % 4) + b') (by omega) p (by omega)]
  congr 1
  omega

end Cert.Decode
-- ==== Proof.DecodeRows.lean ====
module

public import proofs.«01_k».proof.Proof.DecodeBits
public import proofs.«01_k».proof.Proof.Gen.KernelIdeal.Skeleton
public import Idealize.ShloMosaic.Lib.Pipeline.Value
public import Idealize.ShloMosaic.Lib.Pointwise
public import Mathlib.Tactic.FinCases

@[expose] public section

set_option maxRecDepth 16384

noncomputable section

/-!
One decoded block of rows, with the number `R` of rows left open. A row of 640 bytes and 80 scales becomes
1280 numbers: the low halves of the 640 bytes, then their high halves, each over 64 and times the scale of
its group of eight bytes. The block is built as ten pieces of 128 columns, set side by side.
-/

namespace Cert.Decode

open Idealize.ShloMosaic

variable {R q : Nat} {α : Type}

/-- Lane `l` of an index row plus the offset `16 t`, after the wrap of negative indices: `l / 8 + 16 t`. -/
theorem lane_word (a : Fin 16) (t : Fin 5) :
    (Scalar.select (IntOp.cmpi .slt (IntOp.addi (BitVec.ofNat 32 a.val) (BitVec.ofNat 32 (16 * t.val))) 0#32)
      (IntOp.addi (IntOp.addi (BitVec.ofNat 32 a.val) (BitVec.ofNat 32 (16 * t.val))) 128#32)
      (IntOp.addi (BitVec.ofNat 32 a.val) (BitVec.ofNat 32 (16 * t.val)))).toNat % 128 = a.val + 16 * t.val := by
  revert a t; decide +kernel

/-- The scales picked for one piece: lane `l` of the result is lane `l / 8 + k` of the row. -/
theorem gather_at (s : (⟨2, ![R, 128]⟩ : Shape).Idx → α) (v : IVec ⟨2, ![R, 128]⟩ 32)
    (hv : ∀ p l, v (ValueIdx.ix2 p l) = BitVec.ofNat 32 (l.val / 8)) (t : Fin 5) (k : BitVec 32) (hk : k = BitVec.ofNat 32 (16 * t.val))
    (t3 : Shape) (h1 : (⟨2, ![R, 128]⟩ : Shape).ShapeCasts t3) (h2 : t3.ShapeCasts ⟨2, ![R, 128]⟩) (p : Fin R) (l : Fin 128) :
    dynamicGather (s := ⟨2, ![R, 128]⟩) 1 s (shapeCast ⟨2, ![R, 128]⟩ (shapeCast t3
      (select (cmpi .slt (addi v (broadcast ⟨2, ![R, 128]⟩ k)) (broadcast ⟨2, ![R, 128]⟩ 0#32))
        (addi (addi v (broadcast ⟨2, ![R, 128]⟩ k)) (broadcast ⟨2, ![R, 128]⟩ 128#32))
        (addi v (broadcast ⟨2, ![R, 128]⟩ k))) h1) h2) (ValueIdx.ix2 p l)
      = s (ValueIdx.ix2 p ⟨l.val / 8 + 16 * t.val, by omega⟩) := by
  subst hk
  rw [shapeCast_shapeCast]
  unfold dynamicGather
  refine congrArg s ?_
  funext c
  match c with
  | ⟨0, _⟩ => rfl
  | ⟨1, _⟩ =>
    rw [if_pos (by rfl)]
    apply Fin.ext
    refine Eq.trans ?_ (lane_word ⟨l.val / 8, by omega⟩ t)
    show BitVec.toNat (Scalar.select (IntOp.cmpi .slt (IntOp.addi (v (ValueIdx.ix2 p l)) _) _) (IntOp.addi (IntOp.addi (v (ValueIdx.ix2 p l)) _) _) (IntOp.addi (v (ValueIdx.ix2 p l)) _)) % 128 = _
    rw [hv p l]
    rfl

/-- The number in column `k` of a decoded row, before its scale: the low halves of the 640 bytes, then the high ones. -/
def nib (x : Fin 640 → BitVec 8) (k : Fin 1280) : ℝ :=
  if h : k.val < 640 then loV (x ⟨k.val, h⟩) else hiV (x ⟨k.val - 640, by omega⟩)

/-- Column `k` of a decoded row: the four-bit float over 64 times the scale of its group, `s`. -/
def decoded (x : Fin 640 → BitVec 8) (s : Fin 128 → EReal) (k : Fin 1280) : EReal :=
  ((nib x k / 64 : ℝ) : EReal) * s ⟨k.val % 640 / 8, by omega⟩

/-- Piece `n` of ten: what it holds at row `p`, lane `l`. -/
def IsPiece (x : (⟨2, ![R, 640]⟩ : Shape).Idx → BitVec 8) (s : Fin R → Fin 128 → EReal)
    (f : (⟨2, ![R, 128]⟩ : Shape).Idx → EReal) (n : Fin 10) : Prop :=
  ∀ (p : Fin R) (l : Fin 128), f (ValueIdx.ix2 p l) = decoded (fun a => x (ValueIdx.ix2 p a)) (s p) ⟨128 * n.val + l.val, by omega⟩

/-- A piece of low halves. -/
theorem piece_lo (x : (⟨2, ![R, 640]⟩ : Shape).Idx → BitVec 8) (s : Fin R → Fin 128 → EReal)
    (f : (⟨2, ![R, 128]⟩ : Shape).Idx → EReal) (t : Fin 5)
    (hf : ∀ (p : Fin R) (l : Fin 128), f (ValueIdx.ix2 p l)
      = Ideal.e4m3fn (lo8 (x (ValueIdx.ix2 p ⟨128 * t.val + l.val, by omega⟩))) * s p ⟨l.val / 8 + 16 * t.val, by omega⟩) :
    IsPiece x s f ⟨t.val, by omega⟩ := by
  intro p l
  rw [hf p l, e4m3fn_lo8]
  unfold decoded nib
  have h : 128 * t.val + l.val < 640 := by omega
  simp only [dif_pos h]
  congr 2
  apply Fin.ext
  show l.val / 8 + 16 * t.val = (128 * t.val + l.val) % 640 / 8
  omega

/-- A piece of high halves. -/
theorem piece_hi (x : (⟨2, ![R, 640]⟩ : Shape).Idx → BitVec 8) (s : Fin R → Fin 128 → EReal)
    (f : (⟨2, ![R, 128]⟩ : Shape).Idx → EReal) (t : Fin 5)
    (hf : ∀ (p : Fin R) (l : Fin 128), f (ValueIdx.ix2 p l)
      = Ideal.e4m3fn (hi8 (x (ValueIdx.ix2 p ⟨128 * t.val + l.val, by omega⟩))) * s p ⟨l.val / 8 + 16 * t.val, by omega⟩) :
    IsPiece x s f ⟨t.val + 5, by omega⟩ := by
  intro p l
  rw [hf p l, e4m3fn_hi8]
  unfold decoded nib
  have h : ¬ 128 * (t.val + 5) + l.val < 640 := by omega
  simp only [dif_neg h]
  have e : (⟨128 * t.val + l.val, by omega⟩ : Fin 640) = ⟨128 * (t.val + 5) + l.val - 640, by omega⟩ := Fin.ext (by
    show 128 * t.val + l.val = 128 * (t.val + 5) + l.val - 640
    omega)
  rw [e]
  congr 2
  apply Fin.ext
  show l.val / 8 + 16 * t.val = (128 * (t.val + 5) + l.val) % 640 / 8
  omega

/-- Ten pieces side by side are the decoded rows. -/
theorem concat_pieces (x : (⟨2, ![R, 640]⟩ : Shape).Idx → BitVec 8) (s : Fin R → Fin 128 → EReal)
    (f0 f1 f2 f3 f4 f5 f6 f7 f8 f9 : (⟨2, ![R, 128]⟩ : Shape).Idx → EReal)
    (h0 : IsPiece x s f0 0) (h1 : IsPiece x s f1 1) (h2 : IsPiece x s f2 2) (h3 : IsPiece x s f3 3) (h4 : IsPiece x s f4 4)
    (h5 : IsPiece x s f5 5) (h6 : IsPiece x s f6 6) (h7 : IsPiece x s f7 7) (h8 : IsPiece x s f8 8) (h9 : IsPiece x s f9 9)
    (hc : Shape.Concatenates [⟨2, ![R, 128]⟩, ⟨2, ![R, 128]⟩, ⟨2, ![R, 128]⟩, ⟨2, ![R, 128]⟩, ⟨2, ![R, 128]⟩, ⟨2, ![R, 128]⟩, ⟨2, ![R, 128]⟩, ⟨2, ![R, 128]⟩, ⟨2, ![R, 128]⟩, ⟨2, ![R, 128]⟩]
      ⟨2, ![R, 1280]⟩ 1)
    (p : Fin R) (k : Fin 1280) :
    concatenate ⟨2, ![R, 1280]⟩ 1 [⟨⟨2, ![R, 128]⟩, f0⟩, ⟨⟨2, ![R, 128]⟩, f1⟩, ⟨⟨2, ![R, 128]⟩, f2⟩, ⟨⟨2, ![R, 128]⟩, f3⟩,
      ⟨⟨2, ![R, 128]⟩, f4⟩, ⟨⟨2, ![R, 128]⟩, f5⟩, ⟨⟨2, ![R, 128]⟩, f6⟩, ⟨⟨2, ![R, 128]⟩, f7⟩, ⟨⟨2, ![R, 128]⟩, f8⟩, ⟨⟨2, ![R, 128]⟩, f9⟩] hc (ValueIdx.ix2 p k)
      = decoded (fun a => x (ValueIdx.ix2 p a)) (s p) k := by
  have hall : ∀ n : Fin 10, IsPiece x s (![f0, f1, f2, f3, f4, f5, f6, f7, f8, f9] n) n := by
    intro n
    fin_cases n
    · exact h0
    · exact h1
    · exact h2
    · exact h3
    · exact h4
    · exact h5
    · exact h6
    · exact h7
    · exact h8
    · exact h9
  have hk := k.isLt
  refine (concatenate_ofFn_apply (t := ⟨2, ![R, 1280]⟩) (s₁ := ⟨2, ![R, 128]⟩) 1 ![f0, f1, f2, f3, f4, f5, f6, f7, f8, f9] hc rfl 128 rfl (ValueIdx.ix2 p k)
    ⟨k.val / 128, by omega⟩ rfl (ValueIdx.ix2 p ⟨k.val % 128, by omega⟩) rfl ?_).trans ?_
  · intro b hb
    match b with
    | ⟨0, _⟩ => rfl
    | ⟨1, _⟩ => exact absurd rfl hb
  · rw [hall ⟨k.val / 128, by omega⟩ p ⟨k.val % 128, by omega⟩]
    congr 1
    apply Fin.ext
    show 128 * (k.val / 128) + k.val % 128 = k.val
    omega

end Cert.Decode
-- ==== Proof.DecodeKernel.lean ====
module

public import proofs.«01_k».proof.Proof.DecodeRows

@[expose] public section

set_option maxRecDepth 16384

noncomputable section

/-!
The two decoded blocks of the kernel: 256 rows of the gradient, whose scales are multiplied by 4096, and 512
rows of the weight, whose scales are taken as they are. Each is the kernel's own chain of values, and each is
shown to hold the decoded rows.
-/

namespace Cert.Decode

open Idealize.ShloMosaic Cert.KernelIdeal Cert.KernelIdeal.Gen

section Values
variable {F : FTy → Type} [FloatOps F]

/-- The lane numbers of the gradient's scales: lane over eight. -/
def dyLane : IVec S256x128 32 := k0_pay8 (iota .tc S256x128 32 [1] iota_S256x128_d1_w32) 8#32 k0_pay6 k0_pay7 (Scalar.extui (Scalar.cmpi .sgt 8#32 0#32)) (Scalar.extui (Scalar.cmpi .slt 8#32 0#32))

/-- 256 decoded rows of the gradient, from their bytes `x` and their scales `s`. -/
def dyBlock (x : Vec F S256x640 .i8) (s : Vec F S256x128 .fp8e4m3) : FVec F S256x1280 .bf16 :=
  k0_pay24 (k0_pay3 s) (k0_pay4 x) (k0_pay5 x)
    (k0_pay10 (k0_pay3 s) (k0_pay4 x) (iota .tc S256x128 32 [1] iota_S256x128_d1_w32) 8#32 k0_pay6 k0_pay7 (Scalar.extui (Scalar.cmpi .sgt 8#32 0#32)) (Scalar.extui (Scalar.cmpi .slt 8#32 0#32)))
    (k0_pay11 (k0_pay3 s) (k0_pay5 x) (iota .tc S256x128 32 [1] iota_S256x128_d1_w32) 8#32 k0_pay6 k0_pay7 (Scalar.extui (Scalar.cmpi .sgt 8#32 0#32)) (Scalar.extui (Scalar.cmpi .slt 8#32 0#32)))
    (k0_pay13 (k0_pay3 s) (k0_pay4 x) (iota .tc S256x128 32 [1] iota_S256x128_d1_w32) 8#32 k0_pay6 k0_pay7 (Scalar.extui (Scalar.cmpi .sgt 8#32 0#32)) (Scalar.extui (Scalar.cmpi .slt 8#32 0#32)))
    (k0_pay15 (k0_pay12 (k0_pay3 s) (iota .tc S256x128 32 [1] iota_S256x128_d1_w32) 8#32 k0_pay6 k0_pay7 (Scalar.extui (Scalar.cmpi .sgt 8#32 0#32)) (Scalar.extui (Scalar.cmpi .slt 8#32 0#32))) (k0_pay14 (k0_pay5 x)))
    (k0_pay17 (k0_pay3 s) (k0_pay4 x) dyLane)
    (k0_pay18 (k0_pay3 s) (k0_pay5 x) dyLane)
    (k0_pay20 (k0_pay3 s) (k0_pay4 x) dyLane)
    (k0_pay21 (k0_pay3 s) (k0_pay5 x) dyLane)
    (k0_pay22 dyLane) (k0_pay23 dyLane) 128#32

/-- The lane numbers of the weight's scales: lane over eight. -/
def wtLane : IVec S512x128 32 := k0_pay31 (iota .tc S512x128 32 [1] iota_S512x128_d1_w32) 8#32 k0_pay29 k0_pay30

/-- The kernel's output block, from the decoded gradient `d`, 512 rows of the weight and the two global scales. -/
def outBlock (x : Vec F S512x640 .i8) (s : Vec F S512x128 .fp8e4m3) (d : Vec F S4096x1280 .bf16)
    (g w : Elt F .f32) : FVec F S4096x512 .bf16 :=
  k0_pay1
    (k0_pay33 (k0_pay26 s) (k0_pay27 x) (iota .tc S512x128 32 [1] iota_S512x128_d1_w32) 8#32 k0_pay29 k0_pay30)
    (k0_pay34 (k0_pay26 s) (k0_pay28 x) (iota .tc S512x128 32 [1] iota_S512x128_d1_w32) 8#32 k0_pay29 k0_pay30)
    (k0_pay36 (k0_pay26 s) (k0_pay27 x) (iota .tc S512x128 32 [1] iota_S512x128_d1_w32) 8#32 k0_pay29 k0_pay30)
    (k0_pay37 (k0_pay26 s) (k0_pay28 x) (iota .tc S512x128 32 [1] iota_S512x128_d1_w32) 8#32 k0_pay29 k0_pay30)
    (k0_pay41 (k0_pay26 s) (k0_pay27 x) (k0_pay38 (iota .tc S512x128 32 [1] iota_S512x128_d1_w32) 8#32 k0_pay29 k0_pay30) (k0_pay39 (iota .tc S512x128 32 [1] iota_S512x128_d1_w32) 8#32 k0_pay29 k0_pay30))
    (k0_pay42 (k0_pay26 s) (k0_pay28 x) (k0_pay38 (iota .tc S512x128 32 [1] iota_S512x128_d1_w32) 8#32 k0_pay29 k0_pay30) (k0_pay39 (iota .tc S512x128 32 [1] iota_S512x128_d1_w32) 8#32 k0_pay29 k0_pay30))
    (k0_pay44 (k0_pay26 s) (k0_pay27 x) wtLane)
    (k0_pay45 (k0_pay26 s) (k0_pay28 x) wtLane)
    (k0_pay47 (k0_pay26 s) (k0_pay27 x) wtLane)
    (k0_pay48 (k0_pay26 s) (k0_pay28 x) wtLane)
    d g w

end Values

/-- The lane number computed from the lane: the quotient by eight, whatever the correction for negative
    dividends does. -/
theorem lane_div (l : Fin 128) (q : BitVec 32) (hq : q = IntOp.divsi .vector (BitVec.ofNat 32 l.val) 8#32)
    (d : BitVec 1)
    (hd : d = IntOp.cmpi .ne (IntOp.subi ((IntOp.cmpi .sgt (BitVec.ofNat 32 l.val) 0#32).setWidth 32) ((IntOp.cmpi .slt (BitVec.ofNat 32 l.val) 0#32).setWidth 32)) 1#32) :
    Scalar.select (IntOp.andi d (IntOp.cmpi .ne (IntOp.remsi .vector (BitVec.ofNat 32 l.val) 8#32) 0#32)) (IntOp.subi q 1#32) q
      = BitVec.ofNat 32 (l.val / 8) := by
  subst hq hd
  revert l; decide +kernel

theorem dyLane_apply (p : Fin 256) (l : Fin 128) : dyLane (ValueIdx.ix2 p l) = BitVec.ofNat 32 (l.val / 8) := by
  refine Eq.trans ?_ (lane_div l _ rfl _ rfl)
  show Scalar.select _ _ _ = _
  simp only [andi, cmpi, subi, remsi, broadcast, iota, k0_pay6, k0_pay7, divsi, extui, List.foldl]
  simp only [Nat.zero_mul, Nat.zero_add]
  rfl

theorem wtLane_apply (p : Fin 512) (l : Fin 128) : wtLane (ValueIdx.ix2 p l) = BitVec.ofNat 32 (l.val / 8) := by
  refine Eq.trans ?_ (lane_div l _ rfl _ rfl)
  show Scalar.select _ _ _ = _
  simp only [andi, cmpi, subi, remsi, broadcast, iota, k0_pay29, k0_pay30, divsi, extui, List.foldl]
  simp only [Nat.zero_mul, Nat.zero_add]
  rfl

/-- The factor the gradient's scales carry. -/
def G : EReal := Ideal.ofBits .bf16 0x4580#16

theorem G_eq : G = ((4096 : ℝ) : EReal) := by
  unfold G
  simp [Ideal.ofBits, Ideal.ieee, -EReal.coe_mul]
  norm_num [zpow_neg, -EReal.coe_mul]

/-- A shift left by a literal amount on words. -/
theorem shl_lit (w : BitVec 32) (n : Nat) (hn32 : n < 32) : IntOp.shli .vector w (BitVec.ofNat 32 n) = w <<< n := by
  have hn : (BitVec.ofNat 32 n).toNat = n := by
    rw [BitVec.toNat_ofNat]; exact Nat.mod_eq_of_lt (by omega)
  unfold IntOp.shli
  rw [if_pos (by rw [hn]; exact hn32), BitVec.shiftLeft_eq', hn]

/-- A shift right by a literal amount on words. -/
theorem shr_lit (w : BitVec 32) (n : Nat) (hn32 : n < 32) : IntOp.shrui .vector w (BitVec.ofNat 32 n) = w >>> n := by
  have hn : (BitVec.ofNat 32 n).toNat = n := by
    rw [BitVec.toNat_ofNat]; exact Nat.mod_eq_of_lt (by omega)
  unfold IntOp.shrui
  rw [if_pos (by rw [hn]; exact hn32), BitVec.ushiftRight_eq', hn]

/-- The gradient's bytes as words: the block as loaded. -/
theorem k0_pay2_eq (x : Vec Ideal S256x640 .i8) :
    k0_pay2 x = bitcast S64x640 32 x bitcasts_S256x640_w8_S64x640_w32 := by
  unfold k0_pay2
  exact congrArg (fun z => bitcast S64x640 32 z bitcasts_S256x640_w8_S64x640_w32) (shapeCast_self _ _)

/-- The gradient's scales, widened: the scales as loaded. -/
theorem k0_pay3_apply (s : Vec Ideal S256x128 .fp8e4m3) (j : S256x128.Idx) : k0_pay3 s j = s j := by
  unfold k0_pay3
  exact congrFun (shapeCast_self s _) j

theorem k0_pay4_apply (x : Vec Ideal S256x640 .i8) (j : S64x640.Idx) :
    k0_pay4 x j = loW (bitcast S64x640 32 x bitcasts_S256x640_w8_S64x640_w32 j) := by
  show IntOp.ori (IntOp.andi (IntOp.shli .vector (k0_pay2 x j) 4#32) 2155905152#32) (IntOp.andi (IntOp.shli .vector (k0_pay2 x j) 2#32) 471604252#32) = _
  rw [shl_lit _ 4 (by decide), shl_lit _ 2 (by decide), k0_pay2_eq]
  rfl

theorem k0_pay5_apply (x : Vec Ideal S256x640 .i8) (j : S64x640.Idx) :
    k0_pay5 x j = hiW (bitcast S64x640 32 x bitcasts_S256x640_w8_S64x640_w32 j) := by
  show IntOp.ori (IntOp.andi (k0_pay2 x j) 2155905152#32) (IntOp.andi (IntOp.shrui .vector (k0_pay2 x j) 2#32) 471604252#32) = _
  rw [shr_lit _ 2 (by decide), k0_pay2_eq]
  rfl

theorem k0_pay27_apply (x : Vec Ideal S512x640 .i8) (j : S128x640.Idx) :
    k0_pay27 x j = loW (bitcast S128x640 32 x bitcasts_S512x640_w8_S128x640_w32 j) := by
  show IntOp.ori (IntOp.andi (IntOp.shli .vector (k0_pay25 x j) 4#32) 2155905152#32) (IntOp.andi (IntOp.shli .vector (k0_pay25 x j) 2#32) 471604252#32) = _
  rw [shl_lit _ 4 (by decide), shl_lit _ 2 (by decide)]
  rfl

theorem k0_pay28_apply (x : Vec Ideal S512x640 .i8) (j : S128x640.Idx) :
    k0_pay28 x j = hiW (bitcast S128x640 32 x bitcasts_S512x640_w8_S128x640_w32 j) := by
  show IntOp.ori (IntOp.andi (k0_pay25 x j) 2155905152#32) (IntOp.andi (IntOp.shrui .vector (k0_pay25 x j) 2#32) 471604252#32) = _
  rw [shr_lit _ 2 (by decide)]
  rfl

/-- Lanes `o` to `o + 128` cut from a row of words. -/
theorem slice_at {q : Nat} (o : Nat) (ho : o + 128 ≤ 640) (y : (⟨2, ![q, 640]⟩ : Shape).Idx → BitVec 32)
    (h : (⟨2, ![q, 640]⟩ : Shape).Slices ![0, o] ⟨2, ![q, 128]⟩) (a : Fin q) (l : Fin 128) :
    extractStridedSlice ⟨2, ![q, 128]⟩ ![0, o] y h (ValueIdx.ix2 a l) = y (ValueIdx.ix2 a ⟨o + l.val, by omega⟩) :=
  extractStridedSlice_apply _ y h _ _ (by
    intro b
    match b with
    | ⟨0, _⟩ => exact (Nat.zero_add _).symm
    | ⟨1, _⟩ => rfl)

section Pieces
variable {R q : Nat}

/-- A piece of low halves, as the kernel writes it: bytes cut from the words `y`, read as floats, times scales. -/
theorem piece_lo_words (x : (⟨2, ![R, 640]⟩ : Shape).Idx → BitVec 8) (s : Fin R → Fin 128 → EReal) (t : Fin 5)
    (h1 : (⟨2, ![R, 640]⟩ : Shape).Bitcasts 8 ⟨2, ![q, 640]⟩ 32)
    (h2 : (⟨2, ![q, 128]⟩ : Shape).Bitcasts 32 ⟨2, ![R, 128]⟩ 8) (hb : FTy.fp8e4m3.bits < FTy.bf16.bits)
    (y : (⟨2, ![q, 128]⟩ : Shape).Idx → BitVec 32) (sc : FVec Ideal ⟨2, ![R, 128]⟩ .bf16)
    (hy : ∀ (a : Fin q) (l : Fin 128), y (ValueIdx.ix2 a l)
      = loW (bitcast ⟨2, ![q, 640]⟩ 32 x h1 (ValueIdx.ix2 a ⟨128 * t.val + l.val, by omega⟩)))
    (hs : ∀ (p : Fin R) (l : Fin 128), sc (ValueIdx.ix2 p l) = s p ⟨l.val / 8 + 16 * t.val, by omega⟩) :
    IsPiece x s (mulf (extf .bf16 (bitcastToFloat (F := Ideal) .fp8e4m3 (bitcast ⟨2, ![R, 128]⟩ 8 y h2)) hb) sc) ⟨t.val, by omega⟩ := by
  refine piece_lo x s _ t fun p l => ?_
  rw [← bytes_of_words loW lo8 loW_byte x h1 h2 (128 * t.val) (by omega) y hy p l, ← hs p l]
  rfl

/-- A piece of high halves, as the kernel writes it. -/
theorem piece_hi_words (x : (⟨2, ![R, 640]⟩ : Shape).Idx → BitVec 8) (s : Fin R → Fin 128 → EReal) (t : Fin 5)
    (h1 : (⟨2, ![R, 640]⟩ : Shape).Bitcasts 8 ⟨2, ![q, 640]⟩ 32)
    (h2 : (⟨2, ![q, 128]⟩ : Shape).Bitcasts 32 ⟨2, ![R, 128]⟩ 8) (hb : FTy.fp8e4m3.bits < FTy.bf16.bits)
    (y : (⟨2, ![q, 128]⟩ : Shape).Idx → BitVec 32) (sc : FVec Ideal ⟨2, ![R, 128]⟩ .bf16)
    (hy : ∀ (a : Fin q) (l : Fin 128), y (ValueIdx.ix2 a l)
      = hiW (bitcast ⟨2, ![q, 640]⟩ 32 x h1 (ValueIdx.ix2 a ⟨128 * t.val + l.val, by omega⟩)))
    (hs : ∀ (p : Fin R) (l : Fin 128), sc (ValueIdx.ix2 p l) = s p ⟨l.val / 8 + 16 * t.val, by omega⟩) :
    IsPiece x s (mulf (extf .bf16 (bitcastToFloat (F := Ideal) .fp8e4m3 (bitcast ⟨2, ![R, 128]⟩ 8 y h2)) hb) sc) ⟨t.val + 5, by omega⟩ := by
  refine piece_hi x s _ t fun p l => ?_
  rw [← bytes_of_words hiW hi8 hiW_byte x h1 h2 (128 * t.val) (by omega) y hy p l, ← hs p l]
  rfl

/-- Scales picked for a piece and narrowed. -/
theorem scale_at (s : FVec Ideal ⟨2, ![R, 128]⟩ .f32) (v : IVec ⟨2, ![R, 128]⟩ 32)
    (hv : ∀ p l, v (ValueIdx.ix2 p l) = BitVec.ofNat 32 (l.val / 8)) (t : Fin 5) (k : BitVec 32) (hk : k = BitVec.ofNat 32 (16 * t.val))
    (t3 : Shape) (h1 : (⟨2, ![R, 128]⟩ : Shape).ShapeCasts t3) (h2 : t3.ShapeCasts ⟨2, ![R, 128]⟩) (hb : FTy.bf16.bits < FTy.f32.bits)
    (p : Fin R) (l : Fin 128) :
    truncf (F := Ideal) .bf16 (dynamicGather (s := ⟨2, ![R, 128]⟩) 1 s (shapeCast ⟨2, ![R, 128]⟩ (shapeCast t3
      (select (cmpi .slt (addi v (broadcast ⟨2, ![R, 128]⟩ k)) (broadcast ⟨2, ![R, 128]⟩ 0#32))
        (addi (addi v (broadcast ⟨2, ![R, 128]⟩ k)) (broadcast ⟨2, ![R, 128]⟩ 128#32))
        (addi v (broadcast ⟨2, ![R, 128]⟩ k))) h1) h2)) hb (ValueIdx.ix2 p l)
      = s (ValueIdx.ix2 p ⟨l.val / 8 + 16 * t.val, by omega⟩) :=
  gather_at s v hv t k hk t3 h1 h2 p l

/-- … and multiplied by the factor. -/
theorem scaleG_at (s : FVec Ideal ⟨2, ![R, 128]⟩ .f32) (v : IVec ⟨2, ![R, 128]⟩ 32)
    (hv : ∀ p l, v (ValueIdx.ix2 p l) = BitVec.ofNat 32 (l.val / 8)) (t : Fin 5) (k : BitVec 32) (hk : k = BitVec.ofNat 32 (16 * t.val))
    (t3 : Shape) (h1 : (⟨2, ![R, 128]⟩ : Shape).ShapeCasts t3) (h2 : t3.ShapeCasts ⟨2, ![R, 128]⟩) (hb : FTy.bf16.bits < FTy.f32.bits)
    (p : Fin R) (l : Fin 128) :
    mulf (truncf (F := Ideal) .bf16 (dynamicGather (s := ⟨2, ![R, 128]⟩) 1 s (shapeCast ⟨2, ![R, 128]⟩ (shapeCast t3
      (select (cmpi .slt (addi v (broadcast ⟨2, ![R, 128]⟩ k)) (broadcast ⟨2, ![R, 128]⟩ 0#32))
        (addi (addi v (broadcast ⟨2, ![R, 128]⟩ k)) (broadcast ⟨2, ![R, 128]⟩ 128#32))
        (addi v (broadcast ⟨2, ![R, 128]⟩ k))) h1) h2)) hb) (broadcast ⟨2, ![R, 128]⟩ (Scalar.ofBits (F := Ideal) .bf16 0x4580#16)) (ValueIdx.ix2 p l)
      = s (ValueIdx.ix2 p ⟨l.val / 8 + 16 * t.val, by omega⟩) * G :=
  congrArg (· * G) (gather_at s v hv t k hk t3 h1 h2 p l)

end Pieces

theorem dy_scale0 (s : Vec Ideal S256x128 .fp8e4m3) (p : Fin 256) (l : Fin 128) :
    (k0_pay9 (F := Ideal) (k0_pay3 s) (iota .tc S256x128 32 [1] iota_S256x128_d1_w32) 8#32 k0_pay6 k0_pay7 (Scalar.extui (Scalar.cmpi .sgt 8#32 0#32)) (Scalar.extui (Scalar.cmpi .slt 8#32 0#32))) (ValueIdx.ix2 p l)
      = s (ValueIdx.ix2 p ⟨l.val / 8 + 16 * 0, by omega⟩) * G := by
  unfold k0_pay9
  exact (scaleG_at (R := 256) (k0_pay3 s) dyLane dyLane_apply 0 0#32 rfl _ _ _ _ p l).trans (congrArg (· * G) (k0_pay3_apply s _))

theorem dy_scale1 (s : Vec Ideal S256x128 .fp8e4m3) (p : Fin 256) (l : Fin 128) :
    (k0_pay12 (F := Ideal) (k0_pay3 s) (iota .tc S256x128 32 [1] iota_S256x128_d1_w32) 8#32 k0_pay6 k0_pay7 (Scalar.extui (Scalar.cmpi .sgt 8#32 0#32)) (Scalar.extui (Scalar.cmpi .slt 8#32 0#32))) (ValueIdx.ix2 p l)
      = s (ValueIdx.ix2 p ⟨l.val / 8 + 16 * 1, by omega⟩) * G := by
  unfold k0_pay12
  exact (scaleG_at (R := 256) (k0_pay3 s) dyLane dyLane_apply 1 16#32 rfl _ _ _ _ p l).trans (congrArg (· * G) (k0_pay3_apply s _))

theorem dy_scale2 (s : Vec Ideal S256x128 .fp8e4m3) (p : Fin 256) (l : Fin 128) :
    (k0_pay16 (F := Ideal) (k0_pay3 s) dyLane) (ValueIdx.ix2 p l)
      = s (ValueIdx.ix2 p ⟨l.val / 8 + 16 * 2, by omega⟩) * G := by
  unfold k0_pay16
  exact (scaleG_at (R := 256) (k0_pay3 s) dyLane dyLane_apply 2 32#32 rfl _ _ _ _ p l).trans (congrArg (· * G) (k0_pay3_apply s _))

theorem dy_scale3 (s : Vec Ideal S256x128 .fp8e4m3) (p : Fin 256) (l : Fin 128) :
    (k0_pay19 (F := Ideal) (k0_pay3 s) dyLane) (ValueIdx.ix2 p l)
      = s (ValueIdx.ix2 p ⟨l.val / 8 + 16 * 3, by omega⟩) * G := by
  unfold k0_pay19
  exact (scaleG_at (R := 256) (k0_pay3 s) dyLane dyLane_apply 3 48#32 rfl _ _ _ _ p l).trans (congrArg (· * G) (k0_pay3_apply s _))

theorem dy_scale4 (s : Vec Ideal S256x128 .fp8e4m3) (p : Fin 256) (l : Fin 128) :
    (mulf (truncf (F := Ideal) .bf16 (dynamicGather 1 (k0_pay3 s) (shapeCast S256x128 (shapeCast S256x128x1 (select (k0_pay23 dyLane) (addi (k0_pay22 dyLane) (broadcast S256x128 128#32)) (k0_pay22 dyLane)) shapeCasts_S256x128_S256x128x1) shapeCasts_S256x128x1_S256x128)) bitsLt_bf16_f32)
        (broadcast S256x128 (Scalar.ofBits .bf16 0x4580#16))) (ValueIdx.ix2 p l)
      = s (ValueIdx.ix2 p ⟨l.val / 8 + 16 * 4, by omega⟩) * G := by
  unfold k0_pay23 k0_pay22
  exact (scaleG_at (R := 256) (k0_pay3 s) dyLane dyLane_apply 4 64#32 rfl _ _ _ _ p l).trans (congrArg (· * G) (k0_pay3_apply s _))

theorem dy_lo0 (x : Vec Ideal S256x640 .i8) (s : Vec Ideal S256x128 .fp8e4m3) :
    IsPiece (R := 256) x (fun p a => s (ValueIdx.ix2 p a) * G)
      (k0_pay10 (k0_pay3 s) (k0_pay4 x) (iota .tc S256x128 32 [1] iota_S256x128_d1_w32) 8#32 k0_pay6 k0_pay7 (Scalar.extui (Scalar.cmpi .sgt 8#32 0#32)) (Scalar.extui (Scalar.cmpi .slt 8#32 0#32))) 0 := by
  unfold k0_pay10
  exact piece_lo_words (R := 256) (q := 64) x _ 0 bitcasts_S256x640_w8_S64x640_w32 _ _ _ _
    (fun a l => (slice_at (128 * 0) (by decide) _ _ a l).trans (k0_pay4_apply x _)) (dy_scale0 s)

theorem dy_hi0 (x : Vec Ideal S256x640 .i8) (s : Vec Ideal S256x128 .fp8e4m3) :
    IsPiece (R := 256) x (fun p a => s (ValueIdx.ix2 p a) * G)
      (k0_pay11 (k0_pay3 s) (k0_pay5 x) (iota .tc S256x128 32 [1] iota_S256x128_d1_w32) 8#32 k0_pay6 k0_pay7 (Scalar.extui (Scalar.cmpi .sgt 8#32 0#32)) (Scalar.extui (Scalar.cmpi .slt 8#32 0#32))) 5 := by
  unfold k0_pay11
  exact piece_hi_words (R := 256) (q := 64) x _ 0 bitcasts_S256x640_w8_S64x640_w32 _ _ _ _
    (fun a l => (slice_at (128 * 0) (by decide) _ _ a l).trans (k0_pay5_apply x _)) (dy_scale0 s)

theorem dy_lo1 (x : Vec Ideal S256x640 .i8) (s : Vec Ideal S256x128 .fp8e4m3) :
    IsPiece (R := 256) x (fun p a => s (ValueIdx.ix2 p a) * G)
      (k0_pay13 (k0_pay3 s) (k0_pay4 x) (iota .tc S256x128 32 [1] iota_S256x128_d1_w32) 8#32 k0_pay6 k0_pay7 (Scalar.extui (Scalar.cmpi .sgt 8#32 0#32)) (Scalar.extui (Scalar.cmpi .slt 8#32 0#32))) 1 := by
  unfold k0_pay13
  exact piece_lo_words (R := 256) (q := 64) x _ 1 bitcasts_S256x640_w8_S64x640_w32 _ _ _ _
    (fun a l => (slice_at (128 * 1) (by decide) _ _ a l).trans (k0_pay4_apply x _)) (dy_scale1 s)

theorem dy_hi1 (x : Vec Ideal S256x640 .i8) (s : Vec Ideal S256x128 .fp8e4m3) :
    IsPiece (R := 256) x (fun p a => s (ValueIdx.ix2 p a) * G)
      (k0_pay15 (k0_pay12 (k0_pay3 s) (iota .tc S256x128 32 [1] iota_S256x128_d1_w32) 8#32 k0_pay6 k0_pay7 (Scalar.extui (Scalar.cmpi .sgt 8#32 0#32)) (Scalar.extui (Scalar.cmpi .slt 8#32 0#32))) (k0_pay14 (k0_pay5 x))) 6 := by
  unfold k0_pay15 k0_pay12 k0_pay14
  exact piece_hi_words (R := 256) (q := 64) x _ 1 bitcasts_S256x640_w8_S64x640_w32 _ _ _ _
    (fun a l => (slice_at (128 * 1) (by decide) _ _ a l).trans (k0_pay5_apply x _)) (dy_scale1 s)

theorem dy_lo2 (x : Vec Ideal S256x640 .i8) (s : Vec Ideal S256x128 .fp8e4m3) :
    IsPiece (R := 256) x (fun p a => s (ValueIdx.ix2 p a) * G)
      (k0_pay17 (k0_pay3 s) (k0_pay4 x) dyLane) 2 := by
  unfold k0_pay17
  exact piece_lo_words (R := 256) (q := 64) x _ 2 bitcasts_S256x640_w8_S64x640_w32 _ _ _ _
    (fun a l => (slice_at (128 * 2) (by decide) _ _ a l).trans (k0_pay4_apply x _)) (dy_scale2 s)

theorem dy_hi2 (x : Vec Ideal S256x640 .i8) (s : Vec Ideal S256x128 .fp8e4m3) :
    IsPiece (R := 256) x (fun p a => s (ValueIdx.ix2 p a) * G)
      (k0_pay18 (k0_pay3 s) (k0_pay5 x) dyLane) 7 := by
  unfold k0_pay18
  exact piece_hi_words (R := 256) (q := 64) x _ 2 bitcasts_S256x640_w8_S64x640_w32 _ _ _ _
    (fun a l => (slice_at (128 * 2) (by decide) _ _ a l).trans (k0_pay5_apply x _)) (dy_scale2 s)

theorem dy_lo3 (x : Vec Ideal S256x640 .i8) (s : Vec Ideal S256x128 .fp8e4m3) :
    IsPiece (R := 256) x (fun p a => s (ValueIdx.ix2 p a) * G)
      (k0_pay20 (k0_pay3 s) (k0_pay4 x) dyLane) 3 := by
  unfold k0_pay20
  exact piece_lo_words (R := 256) (q := 64) x _ 3 bitcasts_S256x640_w8_S64x640_w32 _ _ _ _
    (fun a l => (slice_at (128 * 3) (by decide) _ _ a l).trans (k0_pay4_apply x _)) (dy_scale3 s)

theorem dy_hi3 (x : Vec Ideal S256x640 .i8) (s : Vec Ideal S256x128 .fp8e4m3) :
    IsPiece (R := 256) x (fun p a => s (ValueIdx.ix2 p a) * G)
      (k0_pay21 (k0_pay3 s) (k0_pay5 x) dyLane) 8 := by
  unfold k0_pay21
  exact piece_hi_words (R := 256) (q := 64) x _ 3 bitcasts_S256x640_w8_S64x640_w32 _ _ _ _
    (fun a l => (slice_at (128 * 3) (by decide) _ _ a l).trans (k0_pay5_apply x _)) (dy_scale3 s)

theorem dy_lo4 (x : Vec Ideal S256x640 .i8) (s : Vec Ideal S256x128 .fp8e4m3) :
    IsPiece (R := 256) x (fun p a => s (ValueIdx.ix2 p a) * G)
      (mulf (extf (F := Ideal) .bf16 (bitcastToFloat .fp8e4m3 (bitcast S256x128 8 (extractStridedSlice S64x128 ![0, 512] (k0_pay4 x) slices_S64x640_o0_512_S64x128) bitcasts_S64x128_w32_S256x128_w8)) bitsLt_fp8e4m3_bf16)
      (mulf (truncf .bf16 (dynamicGather 1 (k0_pay3 s) (shapeCast S256x128 (shapeCast S256x128x1 (select (k0_pay23 dyLane) (addi (k0_pay22 dyLane) (broadcast S256x128 128#32)) (k0_pay22 dyLane)) shapeCasts_S256x128_S256x128x1) shapeCasts_S256x128x1_S256x128)) bitsLt_bf16_f32)
        (broadcast S256x128 (Scalar.ofBits .bf16 0x4580#16)))) 4 := by
  exact piece_lo_words (R := 256) (q := 64) x _ 4 bitcasts_S256x640_w8_S64x640_w32 _ _ _ _
    (fun a l => (slice_at (128 * 4) (by decide) _ _ a l).trans (k0_pay4_apply x _)) (dy_scale4 s)

theorem dy_hi4 (x : Vec Ideal S256x640 .i8) (s : Vec Ideal S256x128 .fp8e4m3) :
    IsPiece (R := 256) x (fun p a => s (ValueIdx.ix2 p a) * G)
      (mulf (extf (F := Ideal) .bf16 (bitcastToFloat .fp8e4m3 (bitcast S256x128 8 (extractStridedSlice S64x128 ![0, 512] (k0_pay5 x) slices_S64x640_o0_512_S64x128) bitcasts_S64x128_w32_S256x128_w8)) bitsLt_fp8e4m3_bf16)
      (mulf (truncf .bf16 (dynamicGather 1 (k0_pay3 s) (shapeCast S256x128 (shapeCast S256x128x1 (select (k0_pay23 dyLane) (addi (k0_pay22 dyLane) (broadcast S256x128 128#32)) (k0_pay22 dyLane)) shapeCasts_S256x128_S256x128x1) shapeCasts_S256x128x1_S256x128)) bitsLt_bf16_f32)
        (broadcast S256x128 (Scalar.ofBits .bf16 0x4580#16)))) 9 := by
  exact piece_hi_words (R := 256) (q := 64) x _ 4 bitcasts_S256x640_w8_S64x640_w32 _ _ _ _
    (fun a l => (slice_at (128 * 4) (by decide) _ _ a l).trans (k0_pay5_apply x _)) (dy_scale4 s)

theorem wt_scale0 (s : Vec Ideal S512x128 .fp8e4m3) (p : Fin 512) (l : Fin 128) :
    (k0_pay32 (F := Ideal) (k0_pay26 s) (iota .tc S512x128 32 [1] iota_S512x128_d1_w32) 8#32 k0_pay29 k0_pay30) (ValueIdx.ix2 p l)
      = s (ValueIdx.ix2 p ⟨l.val / 8 + 16 * 0, by omega⟩) := by
  unfold k0_pay32
  exact scale_at (R := 512) (k0_pay26 s) wtLane wtLane_apply 0 0#32 rfl _ _ _ _ p l

theorem wt_scale1 (s : Vec Ideal S512x128 .fp8e4m3) (p : Fin 512) (l : Fin 128) :
    (k0_pay35 (F := Ideal) (k0_pay26 s) (iota .tc S512x128 32 [1] iota_S512x128_d1_w32) 8#32 k0_pay29 k0_pay30) (ValueIdx.ix2 p l)
      = s (ValueIdx.ix2 p ⟨l.val / 8 + 16 * 1, by omega⟩) := by
  unfold k0_pay35
  exact scale_at (R := 512) (k0_pay26 s) wtLane wtLane_apply 1 16#32 rfl _ _ _ _ p l

theorem wt_scale2 (s : Vec Ideal S512x128 .fp8e4m3) (p : Fin 512) (l : Fin 128) :
    (k0_pay40 (F := Ideal) (k0_pay26 s) (k0_pay38 (iota .tc S512x128 32 [1] iota_S512x128_d1_w32) 8#32 k0_pay29 k0_pay30) (k0_pay39 (iota .tc S512x128 32 [1] iota_S512x128_d1_w32) 8#32 k0_pay29 k0_pay30)) (ValueIdx.ix2 p l)
      = s (ValueIdx.ix2 p ⟨l.val / 8 + 16 * 2, by omega⟩) := by
  unfold k0_pay40 k0_pay39 k0_pay38
  exact scale_at (R := 512) (k0_pay26 s) wtLane wtLane_apply 2 32#32 rfl _ _ _ _ p l

theorem wt_scale3 (s : Vec Ideal S512x128 .fp8e4m3) (p : Fin 512) (l : Fin 128) :
    (k0_pay43 (F := Ideal) (k0_pay26 s) wtLane) (ValueIdx.ix2 p l)
      = s (ValueIdx.ix2 p ⟨l.val / 8 + 16 * 3, by omega⟩) := by
  unfold k0_pay43
  exact scale_at (R := 512) (k0_pay26 s) wtLane wtLane_apply 3 48#32 rfl _ _ _ _ p l

theorem wt_scale4 (s : Vec Ideal S512x128 .fp8e4m3) (p : Fin 512) (l : Fin 128) :
    (k0_pay46 (F := Ideal) (k0_pay26 s) wtLane) (ValueIdx.ix2 p l)
      = s (ValueIdx.ix2 p ⟨l.val / 8 + 16 * 4, by omega⟩) := by
  unfold k0_pay46
  exact scale_at (R := 512) (k0_pay26 s) wtLane wtLane_apply 4 64#32 rfl _ _ _ _ p l

theorem wt_lo0 (x : Vec Ideal S512x640 .i8) (s : Vec Ideal S512x128 .fp8e4m3) :
    IsPiece (R := 512) x (fun p a => s (ValueIdx.ix2 p a))
      (k0_pay33 (k0_pay26 s) (k0_pay27 x) (iota .tc S512x128 32 [1] iota_S512x128_d1_w32) 8#32 k0_pay29 k0_pay30) 0 := by
  unfold k0_pay33
  exact piece_lo_words (R := 512) (q := 128) x _ 0 bitcasts_S512x640_w8_S128x640_w32 _ _ _ _
    (fun a l => (slice_at (128 * 0) (by decide) _ _ a l).trans (k0_pay27_apply x _)) (wt_scale0 s)

theorem wt_hi0 (x : Vec Ideal S512x640 .i8) (s : Vec Ideal S512x128 .fp8e4m3) :
    IsPiece (R := 512) x (fun p a => s (ValueIdx.ix2 p a))
      (k0_pay34 (k0_pay26 s) (k0_pay28 x) (iota .tc S512x128 32 [1] iota_S512x128_d1_w32) 8#32 k0_pay29 k0_pay30) 5 := by
  unfold k0_pay34
  exact piece_hi_words (R := 512) (q := 128) x _ 0 bitcasts_S512x640_w8_S128x640_w32 _ _ _ _
    (fun a l => (slice_at (128 * 0) (by decide) _ _ a l).trans (k0_pay28_apply x _)) (wt_scale0 s)

theorem wt_lo1 (x : Vec Ideal S512x640 .i8) (s : Vec Ideal S512x128 .fp8e4m3) :
    IsPiece (R := 512) x (fun p a => s (ValueIdx.ix2 p a))
      (k0_pay36 (k0_pay26 s) (k0_pay27 x) (iota .tc S512x128 32 [1] iota_S512x128_d1_w32) 8#32 k0_pay29 k0_pay30) 1 := by
  unfold k0_pay36
  exact piece_lo_words (R := 512) (q := 128) x _ 1 bitcasts_S512x640_w8_S128x640_w32 _ _ _ _
    (fun a l => (slice_at (128 * 1) (by decide) _ _ a l).trans (k0_pay27_apply x _)) (wt_scale1 s)

theorem wt_hi1 (x : Vec Ideal S512x640 .i8) (s : Vec Ideal S512x128 .fp8e4m3) :
    IsPiece (R := 512) x (fun p a => s (ValueIdx.ix2 p a))
      (k0_pay37 (k0_pay26 s) (k0_pay28 x) (iota .tc S512x128 32 [1] iota_S512x128_d1_w32) 8#32 k0_pay29 k0_pay30) 6 := by
  unfold k0_pay37
  exact piece_hi_words (R := 512) (q := 128) x _ 1 bitcasts_S512x640_w8_S128x640_w32 _ _ _ _
    (fun a l => (slice_at (128 * 1) (by decide) _ _ a l).trans (k0_pay28_apply x _)) (wt_scale1 s)

theorem wt_lo2 (x : Vec Ideal S512x640 .i8) (s : Vec Ideal S512x128 .fp8e4m3) :
    IsPiece (R := 512) x (fun p a => s (ValueIdx.ix2 p a))
      (k0_pay41 (k0_pay26 s) (k0_pay27 x) (k0_pay38 (iota .tc S512x128 32 [1] iota_S512x128_d1_w32) 8#32 k0_pay29 k0_pay30) (k0_pay39 (iota .tc S512x128 32 [1] iota_S512x128_d1_w32) 8#32 k0_pay29 k0_pay30)) 2 := by
  unfold k0_pay41
  exact piece_lo_words (R := 512) (q := 128) x _ 2 bitcasts_S512x640_w8_S128x640_w32 _ _ _ _
    (fun a l => (slice_at (128 * 2) (by decide) _ _ a l).trans (k0_pay27_apply x _)) (wt_scale2 s)

theorem wt_hi2 (x : Vec Ideal S512x640 .i8) (s : Vec Ideal S512x128 .fp8e4m3) :
    IsPiece (R := 512) x (fun p a => s (ValueIdx.ix2 p a))
      (k0_pay42 (k0_pay26 s) (k0_pay28 x) (k0_pay38 (iota .tc S512x128 32 [1] iota_S512x128_d1_w32) 8#32 k0_pay29 k0_pay30) (k0_pay39 (iota .tc S512x128 32 [1] iota_S512x128_d1_w32) 8#32 k0_pay29 k0_pay30)) 7 := by
  unfold k0_pay42
  exact piece_hi_words (R := 512) (q := 128) x _ 2 bitcasts_S512x640_w8_S128x640_w32 _ _ _ _
    (fun a l => (slice_at (128 * 2) (by decide) _ _ a l).trans (k0_pay28_apply x _)) (wt_scale2 s)

theorem wt_lo3 (x : Vec Ideal S512x640 .i8) (s : Vec Ideal S512x128 .fp8e4m3) :
    IsPiece (R := 512) x (fun p a => s (ValueIdx.ix2 p a))
      (k0_pay44 (k0_pay26 s) (k0_pay27 x) wtLane) 3 := by
  unfold k0_pay44
  exact piece_lo_words (R := 512) (q := 128) x _ 3 bitcasts_S512x640_w8_S128x640_w32 _ _ _ _
    (fun a l => (slice_at (128 * 3) (by decide) _ _ a l).trans (k0_pay27_apply x _)) (wt_scale3 s)

theorem wt_hi3 (x : Vec Ideal S512x640 .i8) (s : Vec Ideal S512x128 .fp8e4m3) :
    IsPiece (R := 512) x (fun p a => s (ValueIdx.ix2 p a))
      (k0_pay45 (k0_pay26 s) (k0_pay28 x) wtLane) 8 := by
  unfold k0_pay45
  exact piece_hi_words (R := 512) (q := 128) x _ 3 bitcasts_S512x640_w8_S128x640_w32 _ _ _ _
    (fun a l => (slice_at (128 * 3) (by decide) _ _ a l).trans (k0_pay28_apply x _)) (wt_scale3 s)

theorem wt_lo4 (x : Vec Ideal S512x640 .i8) (s : Vec Ideal S512x128 .fp8e4m3) :
    IsPiece (R := 512) x (fun p a => s (ValueIdx.ix2 p a))
      (k0_pay47 (k0_pay26 s) (k0_pay27 x) wtLane) 4 := by
  unfold k0_pay47
  exact piece_lo_words (R := 512) (q := 128) x _ 4 bitcasts_S512x640_w8_S128x640_w32 _ _ _ _
    (fun a l => (slice_at (128 * 4) (by decide) _ _ a l).trans (k0_pay27_apply x _)) (wt_scale4 s)

theorem wt_hi4 (x : Vec Ideal S512x640 .i8) (s : Vec Ideal S512x128 .fp8e4m3) :
    IsPiece (R := 512) x (fun p a => s (ValueIdx.ix2 p a))
      (k0_pay48 (k0_pay26 s) (k0_pay28 x) wtLane) 9 := by
  unfold k0_pay48
  exact piece_hi_words (R := 512) (q := 128) x _ 4 bitcasts_S512x640_w8_S128x640_w32 _ _ _ _
    (fun a l => (slice_at (128 * 4) (by decide) _ _ a l).trans (k0_pay28_apply x _)) (wt_scale4 s)

/-- The 256 rows hold the decoded gradient. -/
theorem dyBlock_apply (x : Vec Ideal S256x640 .i8) (s : Vec Ideal S256x128 .fp8e4m3) (p : Fin 256) (k : Fin 1280) :
    dyBlock x s (ValueIdx.ix2 p k) = decoded (fun a => x (ValueIdx.ix2 p a)) (fun a => s (ValueIdx.ix2 p a) * G) k := by
  unfold dyBlock k0_pay24
  refine (congrFun (shapeCast_self _ _) _).trans ?_
  exact concat_pieces (R := 256) x (fun p a => s (ValueIdx.ix2 p a) * G) _ _ _ _ _ _ _ _ _ _
    (dy_lo0 x s) (dy_lo1 x s) (dy_lo2 x s) (dy_lo3 x s) (dy_lo4 x s)
    (dy_hi0 x s) (dy_hi1 x s) (dy_hi2 x s) (dy_hi3 x s) (dy_hi4 x s) _ p k

/-- The matrix product of the block, rows against rows. -/
theorem outMat (d : FVec Ideal S4096x1280 .bf16) (w : FVec Ideal S512x1280 .bf16) (r : Fin 4096) (n : Fin 512) :
    matmul (F := Ideal) dot_S4096x1280_S512x1280_S4096x512_1_1_0_0_n_n none d w (constant (F := Ideal) S4096x512 .f32 0x00000000#32) (ValueIdx.ix2 r n)
      = ∑ k : Fin 1280, d (ValueIdx.ix2 r k) * w (ValueIdx.ix2 n k) := by
  pointwise
  rfl

/-- The output block: the inner products of the decoded rows, times the two global scales. -/
theorem outBlock_apply (x : Vec Ideal S512x640 .i8) (s : Vec Ideal S512x128 .fp8e4m3) (d : Vec Ideal S4096x1280 .bf16)
    (g w : EReal) (r : Fin 4096) (n : Fin 512) :
    outBlock (F := Ideal) x s d g w (ValueIdx.ix2 r n)
      = ((∑ k : Fin 1280, d (ValueIdx.ix2 r k)
          * decoded (fun a => x (ValueIdx.ix2 n a)) (fun a => s (ValueIdx.ix2 n a)) k) * g) * w := by
  have hc := fun (p : Fin 512) (k : Fin 1280) => concat_pieces (R := 512) x (fun p a => s (ValueIdx.ix2 p a)) _ _ _ _ _ _ _ _ _ _
    (wt_lo0 x s) (wt_lo1 x s) (wt_lo2 x s) (wt_lo3 x s) (wt_lo4 x s)
    (wt_hi0 x s) (wt_hi1 x s) (wt_hi2 x s) (wt_hi3 x s) (wt_hi4 x s)
    concatenates_S512x128_S512x128_S512x128_S512x128_S512x128_S512x128_S512x128_S512x128_S512x128_S512x128_S512x1280_d1 p k
  unfold outBlock k0_pay1
  refine congrArg (· * w) (congrArg (· * g) ?_)
  exact (outMat d _ r n).trans (Finset.sum_congr rfl fun k _ => congrArg (d _ * ·) (hc n k))

end Cert.Decode
-- ==== Proof.IdealPieces.lean ====
module

public import proofs.«01_k».proof.Proof.IdealRunA
public import proofs.«01_k».proof.Proof.IdealRunB
public import proofs.«01_k».proof.Proof.DecodeKernel
public import Idealize.ShloMosaic.Lib.WritesUnit
public import Idealize.ShloMosaic.Lib.VecWindow
public import Idealize.ShloMosaic.Lib.WholeRead

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Decode

/-! # What the kernel's body writes

The body's first grid point decodes the left operand into the scratch buffer, 256 rows at a trip, sixteen trips; every
grid point then stores one product block. This module names what those stores hold, as functions of what the operand
buffers hold: the scratch buffer ends at `dyAll`, the output block at `outBlock` of it. -/

/-- The loop makes sixteen trips. -/
theorem trips_eq : k0_t1_loop.trips = 16 := by decide

/-- Trip `k` works on the rows from `256 k`. -/
theorem off1_eq (k : Fin k0_t1_loop.trips) : k0_off1 k = ![256 * k.val, 0] := by
  revert k; decide
theorem off2_eq (k : Fin k0_t1_loop.trips) : k0_off2 k = ![256 * k.val, 0] := by
  revert k; decide
theorem off3_eq (k : Fin k0_t1_loop.trips) : k0_off3 k = ![256 * k.val, 0] := by
  revert k; decide

/-- The 256 rows of a 4096-row array that row `r` belongs to. -/
def strip {α : Type} {C : ℕ} (x : (⟨2, ![4096, C]⟩ : Shape).Idx → α) (r : Fin 4096) : (⟨2, ![256, C]⟩ : Shape).Idx → α :=
  fun j => x (ValueIdx.ix2 ⟨256 * (r.val / 256) + (j 0).val, by have := (j 0).isLt; have h : (j 0).val < 256 := this; have := r.isLt; omega⟩ (j 1))

/-- The whole decoded left operand: row `r` from the strip of 256 rows that holds it. -/
def dyAll (x : Vec F S4096x640 .i8) (s : Vec F S4096x128 .fp8e4m3) : Vec F S4096x1280 .bf16 :=
  fun y => dyBlock (strip x (y 0)) (strip s (y 0)) (ValueIdx.ix2 ⟨(y 0).val % 256, Nat.mod_lt _ (by decide)⟩ (y 1))

set_option backward.proofsInPublic true in
/-- What one trip stores: the decoded strip. -/
theorem tripL_eq (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S4096x640 .i8) (harg3 : arg3.IsWhole) (arg4 : Memref sig .tc .vmem S4096x128 .fp8e4m3) (harg4 : arg4.IsWhole) (arg5 : Memref sig .tc .vmem S512x640 .i8) (harg5 : arg5.IsWhole) (arg6 : Memref sig .tc .vmem S512x128 .fp8e4m3) (harg6 : arg6.IsWhole) (arg7 : Memref sig .tc .vmem S4096x512 .bf16) (harg7 : arg7.IsWhole) (arg8 : Memref sig .tc .vmem S4096x1280 .bf16) (harg8 : arg8.IsWhole) (k0_h1 : k0_cond1 i = 1#1) (X_arg3 : BufTy.Contents (Elt F) arg3.view.ty) (X_arg4 : BufTy.Contents (Elt F) arg4.view.ty) (k : Fin k0_t1_loop.trips) :
    tripL_k0_t1 𝒱 c bd i arg1 harg1 arg2 harg2 arg3 harg3 arg4 harg4 arg5 harg5 arg6 harg6 arg7 harg7 arg8 harg8 k0_h1 X_arg3 X_arg4 k
      = [⟨Rect.unit (s := S4096x1280) (k0_off3 k) S256x1280.size (k0_off3_inb i k k0_h1),
          dyBlock (arg3.view.readAt (Elt F) (Rect.unit (s := S4096x640) (k0_off1 k) S256x640.size (k0_off1_inb i k k0_h1)).toLoadRect X_arg3)
            (arg4.view.readAt (Elt F) (Rect.unit (s := S4096x128) (k0_off2 k) S256x128.size (k0_off2_inb i k k0_h1)).toLoadRect X_arg4)⟩] := by
  unfold tripL_k0_t1 trip_k0_t1
  rfl

/-- A load of 256 rows from row `256 k`, of a buffer that holds `X`, is the strip of any row of those. -/
theorem load_strip {e : EltTy} {C : ℕ} {sp : Space} {arg : Memref sig .tc sp ⟨2, ![4096, C]⟩ e} (harg : arg.IsWhole)
    (X : (⟨2, ![4096, C]⟩ : Shape).Idx → Elt F e) (k : ℕ) (off : Fin 2 → ℕ) (hoff : off = ![256 * k, 0])
    (inb : ∀ a, off a + (![256, C] : Fin 2 → ℕ) a ≤ (![4096, C] : Fin 2 → ℕ) a) (r : Fin 4096) (hr : r.val / 256 = k) :
    arg.view.readAt (Elt F) (Rect.unit (s := ⟨2, ![4096, C]⟩) off ![256, C] inb).toLoadRect (harg.unread X) = strip X r := by
  subst hoff
  funext j
  rw [harg.readAt_unread]
  unfold strip
  refine congrArg X (funext fun a => ?_)
  match a with
  | ⟨0, _⟩ => exact Fin.ext (by change 256 * k + 1 * (j 0).val = 256 * (r.val / 256) + (j 0).val; omega)
  | ⟨1, _⟩ => exact Fin.ext (by change 0 + 1 * (j 1).val = (j 1).val; omega)

/-- After `n` trips the rows below `256 n` read as the decoded operand. -/
theorem read_pb (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S4096x640 .i8) (harg3 : arg3.IsWhole) (arg4 : Memref sig .tc .vmem S4096x128 .fp8e4m3) (harg4 : arg4.IsWhole) (arg5 : Memref sig .tc .vmem S512x640 .i8) (harg5 : arg5.IsWhole) (arg6 : Memref sig .tc .vmem S512x128 .fp8e4m3) (harg6 : arg6.IsWhole) (arg7 : Memref sig .tc .vmem S4096x512 .bf16) (harg7 : arg7.IsWhole) (arg8 : Memref sig .tc .vmem S4096x1280 .bf16) (harg8 : arg8.IsWhole) (k0_h1 : k0_cond1 i = 1#1) (x2 : Vec F S4096x640 .i8) (x3 : Vec F S4096x128 .fp8e4m3)
    (f : arg8.view.ty.Contents (Elt F)) (y : S4096x1280.Idx) (n : ℕ) (hn : n ≤ k0_t1_loop.trips) (hy : (y 0).val < 256 * n) :
    arg8.view.read (Elt F) (arg8.view.writes (Elt F) f
        (pb_k0_t1 𝒱 c bd i arg1 harg1 arg2 harg2 arg3 harg3 arg4 harg4 arg5 harg5 arg6 harg6 arg7 harg7 arg8 harg8 k0_h1 (harg3.unread x2) (harg4.unread x3) n)) y
      = dyAll x2 x3 y := by
  induction n with
  | zero => omega
  | succ n ih =>
    have e := pb_k0_t1_succ 𝒱 c bd i arg1 harg1 arg2 harg2 arg3 harg3 arg4 harg4 arg5 harg5 arg6 harg6 arg7 harg7 arg8 harg8 k0_h1 (harg3.unread x2) (harg4.unread x3) ⟨n, hn⟩
    rw [show n + 1 = (⟨n, hn⟩ : Fin k0_t1_loop.trips).val + 1 from rfl, e, tripL_eq, List.singleton_append]
    by_cases hlt : (y 0).val < 256 * n
    · refine (View.read_writes_cons_rows_of_not_mem arg8.view f _ _ _ y (off3_eq ⟨n, hn⟩) (W := 256) rfl (Or.inl hlt)).trans ?_
      exact ih (Nat.le_of_succ_le hn) hlt
    · have h0 : (y 0).val < 4096 := (y 0).isLt
      have hq : (y 0).val / 256 = n := by omega
      refine (View.read_writes_cons_rows_of_mem arg8.view f _ _ _ y (ValueIdx.ix2 ⟨(y 0).val % 256, Nat.mod_lt _ (by decide)⟩ (y 1))
        (off3_eq ⟨n, hn⟩) (by change (y 0).val = 256 * n + (y 0).val % 256; omega) rfl).trans ?_
      unfold dyAll
      exact congrArg₂ (fun a b => dyBlock a b (ValueIdx.ix2 ⟨(y 0).val % 256, Nat.mod_lt _ (by decide)⟩ (y 1)))
        (load_strip harg3 x2 n _ (off1_eq ⟨n, hn⟩) _ (y 0) hq) (load_strip harg4 x3 n _ (off2_eq ⟨n, hn⟩) _ (y 0) hq)

set_option backward.proofsInPublic true in
theorem runA_arr (c : Dev nD) (i : grid0.Coords) (arg1 : Memref sig .tc .smem S1 .f32) (harg1 : arg1.IsWhole) (arg2 : Memref sig .tc .smem S1 .f32) (harg2 : arg2.IsWhole) (arg3 : Memref sig .tc .vmem S4096x640 .i8) (harg3 : arg3.IsWhole) (arg4 : Memref sig .tc .vmem S4096x128 .fp8e4m3) (harg4 : arg4.IsWhole) (arg5 : Memref sig .tc .vmem S512x640 .i8) (harg5 : arg5.IsWhole) (arg6 : Memref sig .tc .vmem S512x128 .fp8e4m3) (harg6 : arg6.IsWhole) (arg7 : Memref sig .tc .vmem S4096x512 .bf16) (harg7 : arg7.IsWhole) (arg8 : Memref sig .tc .vmem S4096x1280 .bf16) (harg8 : arg8.IsWhole)  (hc0 : cond0_0 i) (x0 : Vec F S1 .f32) (x1 : Vec F S1 .f32) (x2 : Vec F S4096x640 .i8) (x3 : Vec F S4096x128 .fp8e4m3) (x4 : Vec F S512x640 .i8) (x5 : Vec F S512x128 .fp8e4m3) : (kernelRun0_A c i arg1 harg1 arg2 harg2 arg3 harg3 arg4 harg4 arg5 harg5 arg6 harg6 arg7 harg7 arg8 harg8 hc0 x0 x1 x2 x3 x4 x5).2.1 = pb_k0_t1 Variants.none c none i arg1 harg1 arg2 harg2 arg3 harg3 arg4 harg4 arg5 harg5 arg6 harg6 arg7 harg7 arg8 harg8 hc0 (harg3.unread x2) (harg4.unread x3) k0_t1_loop.trips := by
  unfold kernelRun0_A
  rfl

set_option backward.proofsInPublic true in
theorem runA_out (c : Dev nD) (i : grid0.Coords) (arg1 : Memref sig .tc .smem S1 .f32) (harg1 : arg1.IsWhole) (arg2 : Memref sig .tc .smem S1 .f32) (harg2 : arg2.IsWhole) (arg3 : Memref sig .tc .vmem S4096x640 .i8) (harg3 : arg3.IsWhole) (arg4 : Memref sig .tc .vmem S4096x128 .fp8e4m3) (harg4 : arg4.IsWhole) (arg5 : Memref sig .tc .vmem S512x640 .i8) (harg5 : arg5.IsWhole) (arg6 : Memref sig .tc .vmem S512x128 .fp8e4m3) (harg6 : arg6.IsWhole) (arg7 : Memref sig .tc .vmem S4096x512 .bf16) (harg7 : arg7.IsWhole) (arg8 : Memref sig .tc .vmem S4096x1280 .bf16) (harg8 : arg8.IsWhole)  (hc0 : cond0_0 i) (x0 : Vec F S1 .f32) (x1 : Vec F S1 .f32) (x2 : Vec F S4096x640 .i8) (x3 : Vec F S4096x128 .fp8e4m3) (x4 : Vec F S512x640 .i8) (x5 : Vec F S512x128 .fp8e4m3) :
    (kernelRun0_A c i arg1 harg1 arg2 harg2 arg3 harg3 arg4 harg4 arg5 harg5 arg6 harg6 arg7 harg7 arg8 harg8 hc0 x0 x1 x2 x3 x4 x5).1
      = [⟨Rect.unit (s := S4096x512) ![0, 0] S4096x512.size inb_S4096x512_S4096x512_0_0, outBlock (arg5.view.readAt (Elt F) (Rect.unit (s := S512x640) ![0, 0] S512x640.size inb_S512x640_S512x640_0_0).toLoadRect (harg5.unread x4)) (arg6.view.readAt (Elt F) (Rect.unit (s := S512x128) ![0, 0] S512x128.size inb_S512x128_S512x128_0_0).toLoadRect (harg6.unread x5))
          (arg8.view.readCov (pb_k0_t1 Variants.none c none i arg1 harg1 arg2 harg2 arg3 harg3 arg4 harg4 arg5 harg5 arg6 harg6 arg7 harg7 arg8 harg8 hc0 (harg3.unread x2) (harg4.unread x3) k0_t1_loop.trips) (Rect.unit (s := S4096x1280) ![0, 0] S4096x1280.size inb_S4096x1280_S4096x1280_0_0).toLoadRect) (arg1.view.readAt (Elt F) (Rect.unit (s := S1) ![0] S1.size inb_S1_S1_0).toLoadRect (harg1.unread x0) (Shape.Idx.first (by decide))) (arg2.view.readAt (Elt F) (Rect.unit (s := S1) ![0] S1.size inb_S1_S1_0).toLoadRect (harg2.unread x1) (Shape.Idx.first (by decide)))⟩] := by
  unfold kernelRun0_A
  rfl

set_option backward.proofsInPublic true in
theorem runB_out (c : Dev nD) (i : grid0.Coords) (arg1 : Memref sig .tc .smem S1 .f32) (harg1 : arg1.IsWhole) (arg2 : Memref sig .tc .smem S1 .f32) (harg2 : arg2.IsWhole) (arg3 : Memref sig .tc .vmem S4096x640 .i8) (harg3 : arg3.IsWhole) (arg4 : Memref sig .tc .vmem S4096x128 .fp8e4m3) (harg4 : arg4.IsWhole) (arg5 : Memref sig .tc .vmem S512x640 .i8) (harg5 : arg5.IsWhole) (arg6 : Memref sig .tc .vmem S512x128 .fp8e4m3) (harg6 : arg6.IsWhole) (arg7 : Memref sig .tc .vmem S4096x512 .bf16) (harg7 : arg7.IsWhole) (arg8 : Memref sig .tc .vmem S4096x1280 .bf16) (harg8 : arg8.IsWhole)  (hc0 : ¬ cond0_0 i) (x0 : Vec F S1 .f32) (x1 : Vec F S1 .f32) (x2 : Vec F S4096x640 .i8) (x3 : Vec F S4096x128 .fp8e4m3) (x4 : Vec F S512x640 .i8) (x5 : Vec F S512x128 .fp8e4m3) (xs0 : Vec F S4096x1280 .bf16) :
    (kernelRun0_B c i arg1 harg1 arg2 harg2 arg3 harg3 arg4 harg4 arg5 harg5 arg6 harg6 arg7 harg7 arg8 harg8 hc0 x0 x1 x2 x3 x4 x5 xs0).1
      = [⟨Rect.unit (s := S4096x512) ![0, 0] S4096x512.size inb_S4096x512_S4096x512_0_0, outBlock (arg5.view.readAt (Elt F) (Rect.unit (s := S512x640) ![0, 0] S512x640.size inb_S512x640_S512x640_0_0).toLoadRect (harg5.unread x4)) (arg6.view.readAt (Elt F) (Rect.unit (s := S512x128) ![0, 0] S512x128.size inb_S512x128_S512x128_0_0).toLoadRect (harg6.unread x5))
          (arg8.view.readAt (Elt F) (Rect.unit (s := S4096x1280) ![0, 0] S4096x1280.size inb_S4096x1280_S4096x1280_0_0).toLoadRect (harg8.unread xs0)) (arg1.view.readAt (Elt F) (Rect.unit (s := S1) ![0] S1.size inb_S1_S1_0).toLoadRect (harg1.unread x0) (Shape.Idx.first (by decide))) (arg2.view.readAt (Elt F) (Rect.unit (s := S1) ![0] S1.size inb_S1_S1_0).toLoadRect (harg2.unread x1) (Shape.Idx.first (by decide)))⟩] := by
  unfold kernelRun0_B
  rfl

/-- A whole load of a buffer that holds `X` is `X`. -/
theorem load_whole {e : EltTy} {s : Shape} {sp : Space} {arg : Memref sig .tc sp s e} (harg : arg.IsWhole)
    (X : s.Idx → Elt F e) {off : Fin s.rank → ℕ} (inb : ∀ a, off a + s.size a ≤ s.size a) :
    arg.view.readAt (Elt F) (Rect.unit (s := s) off s.size inb).toLoadRect (harg.unread X) = X :=
  (View.readAt_full arg.view _ inb).trans (harg.read_unread X)

/-- After the first point's body the scratch buffer reads as the decoded operand. -/
theorem readA_arr (c : Dev nD) (i : grid0.Coords) (arg1 : Memref sig .tc .smem S1 .f32) (harg1 : arg1.IsWhole) (arg2 : Memref sig .tc .smem S1 .f32) (harg2 : arg2.IsWhole) (arg3 : Memref sig .tc .vmem S4096x640 .i8) (harg3 : arg3.IsWhole) (arg4 : Memref sig .tc .vmem S4096x128 .fp8e4m3) (harg4 : arg4.IsWhole) (arg5 : Memref sig .tc .vmem S512x640 .i8) (harg5 : arg5.IsWhole) (arg6 : Memref sig .tc .vmem S512x128 .fp8e4m3) (harg6 : arg6.IsWhole) (arg7 : Memref sig .tc .vmem S4096x512 .bf16) (harg7 : arg7.IsWhole) (arg8 : Memref sig .tc .vmem S4096x1280 .bf16) (harg8 : arg8.IsWhole)  (hc0 : cond0_0 i) (x0 : Vec F S1 .f32) (x1 : Vec F S1 .f32) (x2 : Vec F S4096x640 .i8) (x3 : Vec F S4096x128 .fp8e4m3) (x4 : Vec F S512x640 .i8) (x5 : Vec F S512x128 .fp8e4m3) (f : arg8.view.ty.Contents (Elt F)) :
    arg8.view.read (Elt F) (arg8.view.writes (Elt F) f (kernelRun0_A c i arg1 harg1 arg2 harg2 arg3 harg3 arg4 harg4 arg5 harg5 arg6 harg6 arg7 harg7 arg8 harg8 hc0 x0 x1 x2 x3 x4 x5).2.1) = dyAll x2 x3 := by
  rw [runA_arr]
  funext y
  exact read_pb Variants.none c none i arg1 harg1 arg2 harg2 arg3 harg3 arg4 harg4 arg5 harg5 arg6 harg6 arg7 harg7 arg8 harg8 hc0 x2 x3 f y _ le_rfl
    (by rw [trips_eq]; exact (y 0).isLt)

/-- One store of a whole buffer leaves its payload. -/
theorem read_whole {e : EltTy} {s : Shape} {sp : Space} {arg : Memref sig .tc sp s e} {off : Fin s.rank → ℕ} (inb : ∀ a, off a + s.size a ≤ s.size a)
    (f : arg.view.ty.Contents (Elt F)) (w : s.Idx → Elt F e) :
    arg.view.read (Elt F) (arg.view.writes (Elt F) f [⟨Rect.unit off s.size inb, w⟩]) = w := by
  funext y
  exact View.read_writes_cons_unit_of_mem arg.view f inb w [] y y rfl fun a => by have := inb a; omega

/-- After the first point's body the output block reads as the product block. -/
theorem readA_out (c : Dev nD) (i : grid0.Coords) (arg1 : Memref sig .tc .smem S1 .f32) (harg1 : arg1.IsWhole) (arg2 : Memref sig .tc .smem S1 .f32) (harg2 : arg2.IsWhole) (arg3 : Memref sig .tc .vmem S4096x640 .i8) (harg3 : arg3.IsWhole) (arg4 : Memref sig .tc .vmem S4096x128 .fp8e4m3) (harg4 : arg4.IsWhole) (arg5 : Memref sig .tc .vmem S512x640 .i8) (harg5 : arg5.IsWhole) (arg6 : Memref sig .tc .vmem S512x128 .fp8e4m3) (harg6 : arg6.IsWhole) (arg7 : Memref sig .tc .vmem S4096x512 .bf16) (harg7 : arg7.IsWhole) (arg8 : Memref sig .tc .vmem S4096x1280 .bf16) (harg8 : arg8.IsWhole)  (hc0 : cond0_0 i) (x0 : Vec F S1 .f32) (x1 : Vec F S1 .f32) (x2 : Vec F S4096x640 .i8) (x3 : Vec F S4096x128 .fp8e4m3) (x4 : Vec F S512x640 .i8) (x5 : Vec F S512x128 .fp8e4m3) (f : arg7.view.ty.Contents (Elt F)) :
    arg7.view.read (Elt F) (arg7.view.writes (Elt F) f (kernelRun0_A c i arg1 harg1 arg2 harg2 arg3 harg3 arg4 harg4 arg5 harg5 arg6 harg6 arg7 harg7 arg8 harg8 hc0 x0 x1 x2 x3 x4 x5).1)
      = outBlock x4 x5 (dyAll x2 x3) (x0 (Shape.Idx.first (by decide))) (x1 (Shape.Idx.first (by decide))) := by
  rw [runA_out, read_whole, load_whole, load_whole, load_whole, load_whole]
  refine congrArg (fun d => outBlock x4 x5 d _ _) ?_
  refine (View.readAt_full arg8.view _ _).trans ?_
  rw [← runA_arr c i arg1 harg1 arg2 harg2 arg3 harg3 arg4 harg4 arg5 harg5 arg6 harg6 arg7 harg7 arg8 harg8 hc0 x0 x1 x2 x3 x4 x5]
  exact readA_arr c i arg1 harg1 arg2 harg2 arg3 harg3 arg4 harg4 arg5 harg5 arg6 harg6 arg7 harg7 arg8 harg8 hc0 x0 x1 x2 x3 x4 x5 _

/-- After a later point's body the output block reads as the product block. -/
theorem readB_out (c : Dev nD) (i : grid0.Coords) (arg1 : Memref sig .tc .smem S1 .f32) (harg1 : arg1.IsWhole) (arg2 : Memref sig .tc .smem S1 .f32) (harg2 : arg2.IsWhole) (arg3 : Memref sig .tc .vmem S4096x640 .i8) (harg3 : arg3.IsWhole) (arg4 : Memref sig .tc .vmem S4096x128 .fp8e4m3) (harg4 : arg4.IsWhole) (arg5 : Memref sig .tc .vmem S512x640 .i8) (harg5 : arg5.IsWhole) (arg6 : Memref sig .tc .vmem S512x128 .fp8e4m3) (harg6 : arg6.IsWhole) (arg7 : Memref sig .tc .vmem S4096x512 .bf16) (harg7 : arg7.IsWhole) (arg8 : Memref sig .tc .vmem S4096x1280 .bf16) (harg8 : arg8.IsWhole)  (hc0 : ¬ cond0_0 i) (x0 : Vec F S1 .f32) (x1 : Vec F S1 .f32) (x2 : Vec F S4096x640 .i8) (x3 : Vec F S4096x128 .fp8e4m3) (x4 : Vec F S512x640 .i8) (x5 : Vec F S512x128 .fp8e4m3) (xs0 : Vec F S4096x1280 .bf16) (f : arg7.view.ty.Contents (Elt F)) :
    arg7.view.read (Elt F) (arg7.view.writes (Elt F) f (kernelRun0_B c i arg1 harg1 arg2 harg2 arg3 harg3 arg4 harg4 arg5 harg5 arg6 harg6 arg7 harg7 arg8 harg8 hc0 x0 x1 x2 x3 x4 x5 xs0).1)
      = outBlock x4 x5 xs0 (x0 (Shape.Idx.first (by decide))) (x1 (Shape.Idx.first (by decide))) := by
  rw [runB_out, read_whole, load_whole, load_whole, load_whole, load_whole, load_whole]

end Cert.KernelIdeal.Run
end
-- ==== Proof.IdealLanes.lean ====
module

public import proofs.«01_k».proof.Proof.IdealPieces

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Cert.Decode

/-! # The scale lanes past the array

The scale blocks are 128 lanes wide and the scale arrays 80, so a fetch fills lanes 0 to 79 and leaves lanes 80 to 127 of
the buffer as they were. The decode reads lane `k % 640 / 8`, always below 80: what the kernel computes does not depend on
the lanes past the array. -/

/-- A decoded entry reads a scale lane below 80. -/
theorem decoded_congr {x : Fin 640 → BitVec 8} {s s' : Fin 128 → EReal} (h : ∀ a : Fin 128, a.val < 80 → s a = s' a)
    (k : Fin 1280) : decoded x s k = decoded x s' k :=
  congrArg (((nib x k / 64 : ℝ) : EReal) * ·) (h _ (by change k.val % 640 / 8 < 80; omega))

/-- The decoded left operand, entry by entry. -/
theorem dyAll_apply (x : Vec Ideal S4096x640 .i8) (s : Vec Ideal S4096x128 .fp8e4m3) (r : Fin 4096) (k : Fin 1280) :
    dyAll x s (ValueIdx.ix2 r k)
      = decoded (fun a => x (ValueIdx.ix2 r a)) (fun a => (s (ValueIdx.ix2 r a) : EReal) * G) k := by
  have hr : ∀ h, (⟨256 * (r.val / 256) + r.val % 256, h⟩ : Fin 4096) = r := fun h => Fin.ext (by
    change 256 * (r.val / 256) + r.val % 256 = r.val; omega)
  refine (dyBlock_apply (strip x r) (strip s r) ⟨r.val % 256, Nat.mod_lt _ (by decide)⟩ k).trans ?_
  have hx : (fun a : Fin 640 => strip x r (ValueIdx.ix2 ⟨r.val % 256, Nat.mod_lt _ (by decide)⟩ a)) = fun a => x (ValueIdx.ix2 r a) :=
    funext fun a => congrArg (fun q => x (ValueIdx.ix2 q a)) (hr _)
  have hs : (fun a : Fin 128 => (strip s r (ValueIdx.ix2 ⟨r.val % 256, Nat.mod_lt _ (by decide)⟩ a) : EReal) * G)
      = fun a => (s (ValueIdx.ix2 r a) : EReal) * G :=
    funext fun a => congrArg (fun q => (s (ValueIdx.ix2 q a) : EReal) * G) (hr _)
  exact congrArg₂ (fun f g => decoded f g k) hx hs

/-- Two scale blocks that agree below lane 80 decode alike. -/
theorem dyAll_congr (x : Vec Ideal S4096x640 .i8) {s s' : Vec Ideal S4096x128 .fp8e4m3}
    (h : ∀ (r : Fin 4096) (a : Fin 128), a.val < 80 → s (ValueIdx.ix2 r a) = s' (ValueIdx.ix2 r a)) : dyAll x s = dyAll x s' := by
  funext y
  obtain ⟨p, q, rfl⟩ : ∃ p q, y = ValueIdx.ix2 p q := ⟨_, _, ValueIdx.eq_ix2 y⟩
  rw [dyAll_apply, dyAll_apply]
  exact decoded_congr (fun a ha => congrArg (· * G) (h p a ha)) _

/-- The product block likewise. -/
theorem outBlock_congr (x : Vec Ideal S512x640 .i8) {s s' : Vec Ideal S512x128 .fp8e4m3} (d : Vec Ideal S4096x1280 .bf16) (g w : EReal)
    (h : ∀ (r : Fin 512) (a : Fin 128), a.val < 80 → s (ValueIdx.ix2 r a) = s' (ValueIdx.ix2 r a)) :
    outBlock (F := Ideal) x s d g w = outBlock (F := Ideal) x s' d g w := by
  funext y
  obtain ⟨p, q, rfl⟩ : ∃ p q, y = ValueIdx.ix2 p q := ⟨_, _, ValueIdx.eq_ix2 y⟩
  rw [outBlock_apply, outBlock_apply]
  refine congrArg (· * w) (congrArg (· * g) (Finset.sum_congr rfl fun k _ => congrArg (d _ * ·) ?_))
  exact decoded_congr (fun a ha => h q a ha) k

/-- What a fetch of scales moves: all the rows, the first 80 lanes. -/
theorem xsize3 (t : Fin cfg0.N) : win0_3.xsize (grid0.coords t) = ![4096, 80] := by
  revert t; decide
theorem xsize5 (t : Fin cfg0.N) : win0_5.xsize (grid0.coords t) = ![512, 80] := by
  revert t; decide

theorem moved3 (t : Fin cfg0.N) (r : Fin 4096) (a : Fin 128) (ha : a.val < 80) :
    win0_3.moved (grid0.coords t) (ValueIdx.ix2 r a) = true := by
  rw [win0_3.moved_iff, xsize3]
  intro b
  match b with
  | ⟨0, _⟩ => exact r.isLt
  | ⟨1, _⟩ => exact ha
theorem moved5 (t : Fin cfg0.N) (r : Fin 512) (a : Fin 128) (ha : a.val < 80) :
    win0_5.moved (grid0.coords t) (ValueIdx.ix2 r a) = true := by
  rw [win0_5.moved_iff, xsize5]
  intro b
  match b with
  | ⟨0, _⟩ => exact r.isLt
  | ⟨1, _⟩ => exact ha

/-- Below lane 80 a fetched scale buffer does not depend on what it held before. -/
theorem fill3 (t : Fin cfg0.N) (d d' : S4096x128.Idx → EReal) (g : (win0_3.xblock (grid0.coords t)).Idx → EReal) (r : Fin 4096) (a : Fin 128)
    (ha : a.val < 80) :
    win0_3.fill (grid0.coords t) d g (ValueIdx.ix2 r a) = win0_3.fill (grid0.coords t) d' g (ValueIdx.ix2 r a) := by
  unfold Window.fill
  rw [dif_pos (moved3 t r a ha), dif_pos (moved3 t r a ha)]
theorem fill5 (t : Fin cfg0.N) (d d' : S512x128.Idx → EReal) (g : (win0_5.xblock (grid0.coords t)).Idx → EReal) (r : Fin 512) (a : Fin 128)
    (ha : a.val < 80) :
    win0_5.fill (grid0.coords t) d g (ValueIdx.ix2 r a) = win0_5.fill (grid0.coords t) d' g (ValueIdx.ix2 r a) := by
  unfold Window.fill
  rw [dif_pos (moved5 t r a ha), dif_pos (moved5 t r a ha)]

end Cert.KernelIdeal.Run
end
-- ==== Proof.IdealFrame.lean ====
module

public import proofs.«01_k».proof.Proof.IdealLanes
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf BodyObligationLoose)

local notation "𝕄" => MT nD τ sig Unit (Elt Ideal) ℕ (UR sig nD τ) ℕ

variable (m : (ℓ : Loc nD τ sig) → Buf (Elt Ideal) ℓ) (ρ : Dev nD → PrngReg)

open Cert.Decode

/-! # The kernel's run, with what its buffers hold

The proof data of the pipeline: what each staging buffer holds after each grid point, and what the scratch buffer holds
between points. The scale windows overhang their arrays, so of them only the lanes inside are stated. -/

theorem S1_pos : 0 < S1.numel := by decide

/-- The first grid point. -/
def tz : Fin cfg0.N := ⟨0, by rw [show cfg0.N = 32 from N_0]; decide⟩

/-- The left scales' buffer, with zero on the lanes past the array. -/
def scales3 (c : Dev nD) (t : Fin cfg0.N) : S4096x128.Idx → EReal := win0_3.fill (grid0.coords t) (fun _ => 0) (iblk (F := Ideal) m c 3 t)
/-- The weight scales' buffer likewise. -/
def scales5 (c : Dev nD) (t : Fin cfg0.N) : S512x128.Idx → EReal := win0_5.fill (grid0.coords t) (fun _ => 0) (iblk (F := Ideal) m c 5 t)

/-- What the scratch buffer holds after the first point: the decoded left operand. -/
def scratch (c : Dev nD) : Vec Ideal S4096x1280 .bf16 := dyAll (iblk (F := Ideal) m c 2 tz) (scales3 m c tz)

/-- What the output buffer holds after point `t`: the product block. -/
def block6 (c : Dev nD) (t : Fin cfg0.N) : Vec Ideal S4096x512 .bf16 :=
  outBlock (F := Ideal) (iblk (F := Ideal) m c 4 t) (scales5 m c t) (scratch m c)
    (iblk (F := Ideal) m c 0 t (Shape.Idx.first (s := S1) S1_pos)) (iblk (F := Ideal) m c 1 t (Shape.Idx.first (s := S1) S1_pos))

/-- Between points: before the first the scratch buffer at anything, then at the decoded operand. -/
def PhiS (c : Dev nD) : ℕ → sProp 𝕄
  | 0 => Pipeline.ΦA spec0 c
  | _ + 1 => iprop(iprop(owns (c : Thread nD τ) scM0_0 fullShare (scratch m c)) ∗ (∃ r, prngReg c r))

theorem PhiS_pos (c : Dev nD) (n : ℕ) (hz : n ≠ 0) :
    PhiS m c n = iprop(iprop(owns (c : Thread nD τ) scM0_0 fullShare (scratch m c)) ∗ (∃ r, prngReg c r)) := by
  cases n with
  | zero => exact absurd rfl hz
  | succ n => rfl

/-- The proof data of the pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => scales3 m c t
    | ⟨4, _⟩ => iblk m c 4 t
    | ⟨5, _⟩ => scales5 m c t
    | ⟨6, _⟩ => block6 m c t
  Φ t := PhiS m c t.val
  q _ := fullShare
  owed _ := 0

/-- The arrays of the proof data are the arrays as the kernel finds them. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = scales3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = scales5 m c t := by dsimp only [dats]
theorem after0_6 (c : Dev nD) (t : Fin cfg0.N) : (dats m 0 c).after 6 t = block6 m c t := by dsimp only [dats]

theorem cut3 (c : Dev nD) (t : Fin cfg0.N) : win0_3.cut (grid0.coords t) (scales3 m c t) = iblk (F := Ideal) m c 3 t :=
  win0_3.cut_fill _ _ _
theorem cut5 (c : Dev nD) (t : Fin cfg0.N) : win0_5.cut (grid0.coords t) (scales5 m c t) = iblk (F := Ideal) m c 5 t :=
  win0_5.cut_fill _ _ _

/-- What a fetch cuts from the scale blocks is the same at every point. -/
theorem clip3 (t t' : Fin cfg0.N) : (cfg0.win 3).clip (cfg0.grid.coords t) = (cfg0.win 3).clip (cfg0.grid.coords t') := by
  change win0_3.clip (grid0.coords t) = win0_3.clip (grid0.coords t')
  have h : ∀ t : Fin cfg0.N, ∀ a, win0_3.clip (grid0.coords t) a = win0_3.clip (grid0.coords tz) a := by decide
  exact funext fun a => (h t a).trans (h t' a).symm
theorem clip5 (t t' : Fin cfg0.N) : (cfg0.win 5).clip (cfg0.grid.coords t) = (cfg0.win 5).clip (cfg0.grid.coords t') := by
  change win0_5.clip (grid0.coords t) = win0_5.clip (grid0.coords t')
  have h : ∀ t : Fin cfg0.N, ∀ a, win0_5.clip (grid0.coords t) a = win0_5.clip (grid0.coords tz) a := by decide
  exact funext fun a => (h t a).trans (h t' a).symm

/-- What the body finds, window by window: the block, and past the array's end whatever the buffer held. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) :
    (dats m 0 c).before 3 t d = win0_3.fill (grid0.coords t) d (iblk (F := Ideal) m c 3 t) :=
  ((dats m 0 c).before_in_eq_fetched 3 rfl (fun _ => rfl) (fun t t' _ => clip3 t t')
    (fun t => by rw [after0_3]; exact (cut3 m c t).trans (by unfold Dat.blockOf iblk; rw [A_eq])) t d).trans
    (by unfold Dat.fetched Dat.blockOf iblk; rw [A_eq]; try rfl)
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) :
    (dats m 0 c).before 5 t d = win0_5.fill (grid0.coords t) d (iblk (F := Ideal) m c 5 t) :=
  ((dats m 0 c).before_in_eq_fetched 5 rfl (fun _ => rfl) (fun t t' _ => clip5 t t')
    (fun t => by rw [after0_5]; exact (cut5 m c t).trans (by unfold Dat.blockOf iblk; rw [A_eq])) t d).trans
    (by unfold Dat.fetched Dat.blockOf iblk; rw [A_eq]; try rfl)

/-- What the first point's body leaves in the scratch buffer, whatever the lanes past the array held. -/
theorem scratch_of (c : Dev nD) (t : Fin cfg0.N) (hz : t.val = 0) (d3 : S4096x128.Idx → EReal) :
    dyAll (F := Ideal) (iblk (F := Ideal) m c 2 t) (win0_3.fill (grid0.coords t) d3 (iblk (F := Ideal) m c 3 t)) = scratch m c := by
  obtain rfl : t = tz := Fin.ext hz
  exact dyAll_congr _ fun r a ha => fill3 tz d3 _ _ r a ha

theorem outBlock_fill5 (t : Fin cfg0.N) (d5 : S512x128.Idx → EReal) (b : (win0_5.xblock (grid0.coords t)).Idx → EReal)
    (x : Vec Ideal S512x640 .i8) (d : Vec Ideal S4096x1280 .bf16) (g w : EReal) :
    outBlock (F := Ideal) x (win0_5.fill (grid0.coords t) d5 b) d g w
      = outBlock (F := Ideal) x (win0_5.fill (grid0.coords t) (fun _ => (0 : EReal)) b) d g w :=
  outBlock_congr x d g w fun r a ha => fill5 t d5 _ b r a ha

/-- What a body leaves in the output buffer, whatever the lanes past the array held. -/
theorem block6_of (c : Dev nD) (t : Fin cfg0.N) (d5 : S512x128.Idx → EReal) :
    outBlock (F := Ideal) (iblk (F := Ideal) m c 4 t) (win0_5.fill (grid0.coords t) d5 (iblk (F := Ideal) m c 5 t)) (scratch m c)
      (iblk (F := Ideal) m c 0 t (Shape.Idx.first (s := S1) S1_pos)) (iblk (F := Ideal) m c 1 t (Shape.Idx.first (s := S1) S1_pos)) = block6 m c t := by
  unfold block6
  exact outBlock_fill5 t d5 _ _ _ _ _

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare (win0_3.fill (grid0.coords t) d (win0_3.cut (grid0.coords t) ((dats m 0 c).after 3 t))))
    ∗ owns (c : Thread nD τ) (ms0_4 t) fullShare ((dats m 0 c).after 4 t)
    ∗ (∃ d, owns (c : Thread nD τ) (ms0_5 t) fullShare (win0_5.fill (grid0.coords t) d (win0_5.cut (grid0.coords t) ((dats m 0 c).after 5 t))))
    ∗ owns (c : Thread nD τ) (ms0_6 t) fullShare ((dats m 0 c).after 6 t))

set_option maxHeartbeats 6400000 in
/-- The body at any point: the first decodes the left operand into the scratch buffer, and every point stores its product
    block. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, cut3, cut5]
  rw [show (dats m 0 c).Φ t.succ = PhiS m c (t.val + 1) from rfl, PhiS_pos m c _ (Nat.succ_ne_zero _)]
  rw [show (dats m 0 c).Φ t.castSucc = PhiS m c t.val from rfl]
  have hN : t.val < 32 := lt_of_lt_of_eq t.isLt (show cfg0.N = 32 from N_0)
  by_cases h0 : t.val % 32 = 0
  · have hz : t.val = 0 := by omega
    · rw [show PhiS m c t.val = Pipeline.ΦA spec0 c from by rw [hz]; rfl, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (win0_3.fill (grid0.coords t) d3 (iblk m c 3 t)) (iblk m c 4 t) (win0_5.fill (grid0.coords t) d5 (iblk m c 5 t))).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact (readA_arr c _ _ _ _ _ _ _ _ _ _ _ _ _ _ _ _ _ _ _ _ _ _ _ _ _).trans (scratch_of m c t hz d3)
        iexact Hg
      isplitl [Ho]; · iexact Ho
      isplitl [H0]; · iexact H0
      isplitl [H1]; · iexact H1
      isplitl [H2]; · iexact H2
      isplitl [H3]; · iexists d3; iexact H3
      isplitl [H4]; · iexact H4
      isplitl [H5]; · iexists d5; iexact H5
      unfold owns; iexists _; isplitr
      swap; · iexact H6
      ipureintro; exact (readA_out c _ _ _ _ _ _ _ _ _ _ _ _ _ _ _ _ _ _ _ _ _ _ _ _ _).trans ((congrArg (fun d => outBlock (F := Ideal) _ _ d _ _) (scratch_of m c t hz d3)).trans (block6_of m c t d5))
  · have hz : t.val ≠ 0 := fun h => h0 (by rw [h])
    · rw [PhiS_pos m c _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (iblk m c 0 t) (iblk m c 1 t) (iblk m c 2 t) (win0_3.fill (grid0.coords t) d3 (iblk m c 3 t)) (iblk m c 4 t) (win0_5.fill (grid0.coords t) d5 (iblk m c 5 t)) (scratch m c)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexists d3; iexact H3
      isplitl [H4]; · iexact H4
      isplitl [H5]; · iexists d5; iexact H5
      unfold owns; iexists _; isplitr
      swap; · iexact H6
      ipureintro; exact (readB_out c _ _ _ _ _ _ _ _ _ _ _ _ _ _ _ _ _ _ _ _ _ _ _ _ _ _).trans (block6_of m c t d5)

/-- The body table's row at point `t`'s buffers is the body at that point. -/
theorem defs₀_row (t : Fin cfg0.N) :
    defs₀ (F := Ideal) .tc cfg0.body (cfg0.bodyArgs t (cfg0.slots t)) = bodyAt0 t := by
  unfold defs₀; rw [Defs.onTc_tc]

/-- The body keeps the proof data at every point. -/
theorem body_obligation (c : Dev nD) : BodyObligationLoose (dats m 0 c) (defs₀ (F := Ideal)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = Pipeline.ΦA spec0 c from rfl]

/-- After the last point the scratch buffer's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 32 := N_0; omega), PhiA0_eq]
  iintro ⟨HS0, Hg⟩
  isplitl [HS0]
  · iexists _; iexact HS0
  iexact Hg

/-! ## The run -/

-- the launch theorem's implicit arguments are found by unifying its conclusion with this one, which takes unfolding plain
-- definitions in a metavariable's type
set_option backward.isDefEq.respectTransparency.types false in
/-- The run, and every semaphore counter at zero at its end. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- Every run ends with each array of the pipeline as the proof data has it and every other buffer as the kernel found it. -/
theorem run_main : θ_run defs (onTc (τ := τ) (main (F := Ideal))) (s₀ m ρ) (Pipeline.FramePost cfgs (dats m) 0 (V m)) :=
  (θ_run defs _ _).mono (fun _ h => h.1) (run_main_quiescent m ρ)

/-- Every run ends with the argument arrays unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- Every run ends, leaves the argument arrays unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Run

end
-- ==== Proof.Product.lean ====
module

public import proofs.«01_k».proof.Proof.DecodeKernel

@[expose] public section

noncomputable section

namespace Cert.Decode

open Idealize.ShloMosaic

/-! # The product the kernel computes

Every entry of the result is a sum over the 1280 positions of a row: the decoded left row against the decoded weight row,
times the two global scales. A row's 80 scales are read through 128 lanes, of which the last 48 are never used. -/

/-- Eighty scales on 128 lanes, zero on the rest. -/
def lanes (s : Fin 80 → EReal) (a : Fin 128) : EReal := if h : a.val < 80 then s ⟨a.val, h⟩ else 0

theorem lanes_lt (s : Fin 80 → EReal) (a : Fin 128) (h : a.val < 80) : lanes s a = s ⟨a.val, h⟩ := dif_pos h

/-- The result as the kernel computes it, entry by entry. -/
def product (X : (⟨2, ![4096, 640]⟩ : Shape).Idx → BitVec 8) (S : (⟨2, ![4096, 80]⟩ : Shape).Idx → EReal)
    (Y : (⟨2, ![16384, 640]⟩ : Shape).Idx → BitVec 8) (T : (⟨2, ![16384, 80]⟩ : Shape).Idx → EReal) (g w : EReal)
    (r : Fin 4096) (n : Fin 16384) : EReal :=
  ((∑ k : Fin 1280, decoded (fun a => X (ValueIdx.ix2 r a)) (fun a => lanes (fun b => S (ValueIdx.ix2 r b)) a * G) k
      * decoded (fun a => Y (ValueIdx.ix2 n a)) (lanes (fun b => T (ValueIdx.ix2 n b))) k) * g) * w

end Cert.Decode
end
-- ==== Proof.IdealValue.lean ====
module

public import proofs.«01_k».proof.Proof.IdealFrame
public import proofs.«01_k».proof.Proof.Product
public import Idealize.ShloMosaic.Lib.StableHlo.Run
public import Idealize.ShloMosaic.Lib.Pipeline.Value

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Cert.Decode

/-! # What the kernel's result array ends holding

Point `t` writes the product's columns `512 t` to `512 t + 511`; the 32 blocks tile the result. -/

/-- Row `r` of the weight's `t`-th block. -/
def colOf (t : Fin cfg0.N) (r : Fin 512) : Fin 16384 :=
  ⟨512 * t.val + r.val, by have h := t.isLt; have : cfg0.N = 32 := N_0; have := r.isLt; omega⟩

/-! ## The operands' blocks: which rows each window reads -/

theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

theorem iblk2_apply (c : Dev nD) (t : Fin cfg0.N) (r : Fin 4096) (a : Fin 640) :
    iblk (F := Ideal) m c 2 t (ValueIdx.ix2 r a) = V m c main_v0 (ValueIdx.ix2 r a) := by
  have hi := idx2 t
  change V m c main_v0 (((cfg0.win 2).blk t).view.emb (ValueIdx.ix2 r a)) = _
  refine congrArg (V m c main_v0) (funext fun b => ?_)
  match b with
  | ⟨0, _⟩ => exact Fin.ext (by
      change win0_2.index t (0 : Fin 2) * 4096 + 1 * r.val = r.val
      omega)
  | ⟨1, _⟩ => exact Fin.ext (by
      change win0_2.index t (1 : Fin 2) * 640 + 1 * a.val = a.val
      omega)

theorem iblk4_apply (c : Dev nD) (t : Fin cfg0.N) (r : Fin 512) (a : Fin 640) :
    iblk (F := Ideal) m c 4 t (ValueIdx.ix2 r a) = V m c main_arg3 (ValueIdx.ix2 (colOf t r) a) := by
  have hi := idx4 t
  change V m c main_arg3 (((cfg0.win 4).blk t).view.emb (ValueIdx.ix2 r a)) = _
  refine congrArg (V m c main_arg3) (funext fun b => ?_)
  match b with
  | ⟨0, _⟩ => exact Fin.ext (by
      change win0_4.index t (0 : Fin 2) * 512 + 1 * r.val = 512 * t.val + r.val
      omega)
  | ⟨1, _⟩ => exact Fin.ext (by
      change win0_4.index t (1 : Fin 2) * 640 + 1 * a.val = a.val
      omega)

theorem scales3_apply (c : Dev nD) (t : Fin cfg0.N) (r : Fin 4096) (a : Fin 128) (ha : a.val < 80) :
    scales3 m c t (ValueIdx.ix2 r a) = V m c main_v1 (ValueIdx.ix2 r ⟨a.val, ha⟩) := by
  have hi := idx3 t
  unfold scales3 Window.fill
  rw [dif_pos (moved3 t r a ha)]
  change V m c main_v1 (((cfg0.win 3).blk t).view.emb _) = _
  refine congrArg (V m c main_v1) (funext fun b => ?_)
  match b with
  | ⟨0, _⟩ => exact Fin.ext (by
      change win0_3.index t (0 : Fin 2) * 4096 + 1 * r.val = r.val
      omega)
  | ⟨1, _⟩ => exact Fin.ext (by
      change win0_3.index t (1 : Fin 2) * 128 + 1 * a.val = a.val
      omega)

theorem scales5_apply (c : Dev nD) (t : Fin cfg0.N) (r : Fin 512) (a : Fin 128) (ha : a.val < 80) :
    scales5 m c t (ValueIdx.ix2 r a) = V m c main_arg4 (ValueIdx.ix2 (colOf t r) ⟨a.val, ha⟩) := by
  have hi := idx5 t
  unfold scales5 Window.fill
  rw [dif_pos (moved5 t r a ha)]
  change V m c main_arg4 (((cfg0.win 5).blk t).view.emb _) = _
  refine congrArg (V m c main_arg4) (funext fun b => ?_)
  match b with
  | ⟨0, _⟩ => exact Fin.ext (by
      change win0_5.index t (0 : Fin 2) * 512 + 1 * r.val = 512 * t.val + r.val
      omega)
  | ⟨1, _⟩ => exact Fin.ext (by
      change win0_5.index t (1 : Fin 2) * 128 + 1 * a.val = a.val
      omega)

/-- A one-element array has one index. -/
theorem one_idx (x y : S1.Idx) : x = y :=
  funext fun a => match a with
    | ⟨0, _⟩ => Fin.ext (by have h1 : (x 0).val < 1 := (x 0).isLt; have h2 : (y 0).val < 1 := (y 0).isLt; change (x 0).val = (y 0).val; omega)

/-- The two global scales. -/
theorem iblk0_apply (c : Dev nD) (t : Fin cfg0.N) (x y : S1.Idx) : iblk (F := Ideal) m c 0 t x = V m c main_arg2 y := by
  change V m c main_arg2 (((cfg0.win 0).blk t).view.emb x) = _
  exact congrArg (V m c main_arg2) (one_idx _ _)
theorem iblk1_apply (c : Dev nD) (t : Fin cfg0.N) (x y : S1.Idx) : iblk (F := Ideal) m c 1 t x = V m c main_arg5 y := by
  change V m c main_arg5 (((cfg0.win 1).blk t).view.emb x) = _
  exact congrArg (V m c main_arg5) (one_idx _ _)

/-- The gradient's codes as the region finds them: the argument with its two leading axes joined. -/
theorem V_main_v0 (c : Dev nD) :
    V m c main_v0 = shapeCast S4096x640 (m ((c : Thread nD τ).loc main_arg0)) shapeCasts_S2x2048x640_S4096x640 := by
  show StableHlo.after hostOps0 _ (Proc.devRef .tc main_v0) = _
  after_results
  rfl

/-- The gradient's scales as the region finds them. -/
theorem V_main_v1 (c : Dev nD) :
    V m c main_v1 = shapeCast S4096x80 (m ((c : Thread nD τ).loc main_arg1)) shapeCasts_S2x2048x80_S4096x80 := by
  show StableHlo.after hostOps0 _ (Proc.devRef .tc main_v1) = _
  after_results
  rfl

/-- What the result array ends holding. -/
def result (c : Dev nD) : Buf (Elt Ideal) ((c : Thread nD τ).loc main_v2) := fun i =>
  product (V m c main_v0) (V m c main_v1) (V m c main_arg3) (V m c main_arg4)
    (V m c main_arg2 (Shape.Idx.first (s := S1) S1_pos)) (V m c main_arg5 (Shape.Idx.first (s := S1) S1_pos)) (i 0) (i 1)

/-- The scratch buffer's entries. -/
theorem scratch_apply (c : Dev nD) (r : Fin 4096) (k : Fin 1280) :
    scratch m c (ValueIdx.ix2 r k)
      = decoded (fun a => V m c main_v0 (ValueIdx.ix2 r a)) (fun a => lanes (fun b => V m c main_v1 (ValueIdx.ix2 r b)) a * G) k := by
  unfold scratch
  rw [dyAll_apply]
  have hx : (fun a : Fin 640 => (iblk (F := Ideal) m c 2 tz : Vec Ideal S4096x640 .i8) (ValueIdx.ix2 r a)) = fun a => V m c main_v0 (ValueIdx.ix2 r a) :=
    funext fun a => iblk2_apply m c tz r a
  refine (congrArg (fun f => decoded f _ k) hx).trans (decoded_congr (fun a ha => congrArg (· * G) ?_) k)
  exact (scales3_apply m c tz r a ha).trans (lanes_lt (fun b => V m c main_v1 (ValueIdx.ix2 r b)) a ha).symm

/-- The product block's entries. -/
theorem block6_apply (c : Dev nD) (t : Fin cfg0.N) (r : Fin 4096) (n : Fin 512) :
    block6 m c t (ValueIdx.ix2 r n)
      = product (V m c main_v0) (V m c main_v1) (V m c main_arg3) (V m c main_arg4)
          (V m c main_arg2 (Shape.Idx.first (s := S1) S1_pos)) (V m c main_arg5 (Shape.Idx.first (s := S1) S1_pos)) r (colOf t n) := by
  unfold block6
  refine (outBlock_apply _ _ _ _ _ r n).trans ?_
  unfold product
  rw [iblk0_apply m c t _ (Shape.Idx.first (s := S1) S1_pos), iblk1_apply m c t _ (Shape.Idx.first (s := S1) S1_pos)]
  refine congrArg (· * _) (congrArg (· * _) (Finset.sum_congr rfl fun k _ => ?_))
  refine congrArg₂ (· * ·) (scratch_apply m c r k) ?_
  have hx : (fun a : Fin 640 => (iblk (F := Ideal) m c 4 t : Vec Ideal S512x640 .i8) (ValueIdx.ix2 n a)) = fun a => V m c main_arg3 (ValueIdx.ix2 (colOf t n) a) :=
    funext fun a => iblk4_apply m c t n a
  refine (congrArg (fun f => decoded f _ k) hx).trans (decoded_congr (fun a ha => ?_) k)
  exact (scales5_apply m c t n a ha).trans (lanes_lt (fun b => V m c main_arg4 (ValueIdx.ix2 (colOf t n) b)) a ha).symm

/-! ## The blocks tile the result -/

/-- The output's block at point `t` is its `t`-th block of 512 columns. -/
theorem idx_facts6 : ∀ t : Fin cfg0.N, 0 ≤ win0_6.index t (0 : Fin 2) ∧ win0_6.index t (0 : Fin 2) ≤ 0
    ∧ 0 ≤ win0_6.index t (1 : Fin 2) ∧ win0_6.index t (1 : Fin 2) ≤ 31
    ∧ 32 * (win0_6.index t (0 : Fin 2) - 0) + 1 * (win0_6.index t (1 : Fin 2) - 0) = t.val :=
  (by decide +kernel : ∀ t : Fin grid0.N, _)

/-- The point that writes block `q1`. -/
abbrev onto6Pt (q0 : Fin 1) (q1 : Fin 32) : Fin grid0.N :=
  ⟨32 * q0.val + 1 * q1.val, lt_of_lt_of_eq (by omega) N_0.symm⟩
theorem idx_onto6 : ∀ (q0 : Fin 1) (q1 : Fin 32), ∃ t : Fin cfg0.N, (cfg0.win 6).flush t = true ∧ win0_6.index t = ![q0.val + 0, q1.val + 0] :=
  fun q0 q1 => ⟨onto6Pt q0 q1, (by decide +kernel : ∀ (q0 : Fin 1) (q1 : Fin 32), win0_6.flush (onto6Pt q0 q1) = true ∧ win0_6.index (onto6Pt q0 q1) = ![q0.val + 0, q1.val + 0]) q0 q1⟩

/-- An index of the array is in point `t`'s block iff each coordinate is in the block's range on its axis. -/
theorem mem_blk6 (t : Fin cfg0.N) (i : S4096x16384.Idx) :
    i ∈ ((cfg0.win 6).blk t).view.set ↔ ∀ a : Fin 2, win0_6.index t a * S4096x512.size a ≤ (i a).val ∧ (i a).val < win0_6.index t a * S4096x512.size a + S4096x512.size a := by
  show i ∈ ((View.whole main_v2).slice (win0_6.rect t)).set ↔ _
  rw [View.set_slice_whole, Rect.mem_set_unit]
  exact Iff.rfl

/-- The blocks cover the array. -/
theorem covered_iff6 (i : S4096x16384.Idx) :
    (∃ t : Fin cfg0.N, (cfg0.win 6).flush t = true ∧ i ∈ ((cfg0.win 6).blk t).view.set) ↔ 0 ≤ (i 0).val ∧ (i 0).val < 4096 ∧ 0 ≤ (i 1).val ∧ (i 1).val < 16384 := by
  constructor
  · rintro ⟨t, -, hi⟩
    rw [mem_blk6] at hi
    have b0 : win0_6.index t (0 : Fin 2) * 4096 ≤ (i 0).val ∧ (i 0).val < win0_6.index t (0 : Fin 2) * 4096 + 4096 := hi 0
    have b1 : win0_6.index t (1 : Fin 2) * 512 ≤ (i 1).val ∧ (i 1).val < win0_6.index t (1 : Fin 2) * 512 + 512 := hi 1
    obtain ⟨e0, e1, e2⟩ := idx_facts6 t
    omega
  · intro h
    have hi0 : (i 0).val < 4096 := (i 0).isLt
    have hi1 : (i 1).val < 16384 := (i 1).isLt
    obtain ⟨t, hft, ht⟩ := idx_onto6 ⟨(i 0).val / 4096 - 0, by omega⟩ ⟨(i 1).val / 512 - 0, by omega⟩
    have q0 : win0_6.index t (0 : Fin 2) = (i 0).val / 4096 - 0 + 0 := congrFun ht 0
    have q1 : win0_6.index t (1 : Fin 2) = (i 1).val / 512 - 0 + 0 := congrFun ht 1
    refine ⟨t, hft, ?_⟩
    rw [mem_blk6]
    intro a
    match a with
    | ⟨0, _⟩ => show win0_6.index t (0 : Fin 2) * 4096 ≤ (i 0).val ∧ (i 0).val < win0_6.index t (0 : Fin 2) * 4096 + 4096; omega
    | ⟨1, _⟩ => show win0_6.index t (1 : Fin 2) * 512 ≤ (i 1).val ∧ (i 1).val < win0_6.index t (1 : Fin 2) * 512 + 512; omega

/-- What point `t` writes back is its block of the result. -/
theorem flushed6_eq (c : Dev nD) (t : Fin cfg0.N) (hf : (cfg0.win 6).flush t = true) :
    (dats m 0 c).flushed 6 t = ((cfg0.win 6).blk t).view.read (Elt Ideal) (result m c) := by
  show (cfg0.win 6).cut (grid0.coords t) ((dats m 0 c).after 6 t) = _
  rw [after0_6]
  obtain ⟨e0, e1, e2, e3, e4⟩ := idx_facts6 t
  funext y
  obtain ⟨r, n, rfl⟩ : ∃ (r : Fin 4096) (n : Fin 512), y = ValueIdx.ix2 r n := ⟨_, _, ValueIdx.eq_ix2 (n0 := 4096) (n1 := 512) y⟩
  refine (block6_apply m c t r n).trans ?_
  have h0 : ((cfg0.win 6).blk t).view.emb (ValueIdx.ix2 r n) 0 = r := Fin.ext (by
    change win0_6.index t (0 : Fin 2) * 4096 + 1 * r.val = r.val; omega)
  have h1 : ((cfg0.win 6).blk t).view.emb (ValueIdx.ix2 r n) 1 = colOf t n := Fin.ext (by
    change win0_6.index t (1 : Fin 2) * 512 + 1 * n.val = 512 * t.val + n.val; omega)
  change _ = result m c (((cfg0.win 6).blk t).view.emb (ValueIdx.ix2 r n))
  unfold result
  rw [h0, h1]

/-- The result array after the run. -/
theorem final6 (c : Dev nD) : (dats m 0 c).arrAt 6 cfg0.N = result m c :=
  (dats m 0 c).arrAt_eq_of_cover 6 _ (fun t hf => flushed6_eq m c t hf) (fun i => (covered_iff6 i).2 (by
    have h0 : (i 0).val < 4096 := (i 0).isLt; have h1 : (i 1).val < 16384 := (i 1).isLt; omega))

/-! ## The run, read -/

/-- The result array is the pipeline's output array. -/
theorem post6 (r : PUnit × MemSt nD τ sig (Elt Ideal)) (h : Pipeline.FramePost cfgs (dats m) 0 (V m) r) (c : Dev nD) :
    r.2.mem ((c : Thread nD τ).loc main_v2) = (dats m 0 c).arrAt 6 cfg0.N :=
  (h c).1 6

/-- The argument is as launched. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- The argument is as launched. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The argument is as launched. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 0).trans (((dats m 0 c).arrAt_in 0 rfl _).trans ((A_eq m c 0).trans (V_main_arg2 m c)))

/-- The argument is as launched. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 4).trans (((dats m 0 c).arrAt_in 4 rfl _).trans ((A_eq m c 4).trans (V_main_arg3 m c)))

/-- The argument is as launched. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 5).trans (((dats m 0 c).arrAt_in 5 rfl _).trans ((A_eq m c 5).trans (V_main_arg4 m c)))

/-- The argument is as launched. -/
theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 1).trans (((dats m 0 c).arrAt_in 1 rfl _).trans ((A_eq m c 1).trans (V_main_arg5 m c)))

/-- Every run ends with the product in the result array and the arguments unchanged. -/
theorem run_value : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      kept_main_arg0 m r h c,
      kept_main_arg1 m r h c,
      kept_main_arg2 m r h c,
      kept_main_arg3 m r h c,
      kept_main_arg4 m r h c,
      kept_main_arg5 m r h c⟩)
    (run_main m ρ)

end Cert.KernelIdeal.Run

end
-- ==== Proof.RefDecode.lean ====
module

public import proofs.«01_k».proof.Proof.DecodeRows

@[expose] public section

set_option maxRecDepth 16384

noncomputable section

/-!
One half of a packed byte as the reference decodes it: a table of eight magnitudes looked up by three bits, a
sign by the fourth, and one block scale for each group of eight bytes. The number of rows is left open.
-/

namespace Cert.Decode

open Idealize.ShloMosaic

/-- The table of magnitudes, looked up by three bits. -/
def tab (b0 b1 b2 : BitVec 1) : EReal :=
  Scalar.select b2
    (Scalar.select b1 (Scalar.select b0 (Ideal.ofBits .bf16 0x40C0#16) (Ideal.ofBits .bf16 0x4080#16))
      (Scalar.select b0 (Ideal.ofBits .bf16 0x4040#16) (Ideal.ofBits .bf16 0x4000#16)))
    (Scalar.select b1 (Scalar.select b0 (Ideal.ofBits .bf16 0x3FC0#16) (Ideal.ofBits .bf16 0x3F80#16))
      (Scalar.select b0 (Ideal.ofBits .bf16 0x3F00#16) (Ideal.ofBits .bf16 0x0000#16)))

/-- The table with a sign. -/
def signed (b0 b1 b2 b3 : BitVec 1) : EReal :=
  Scalar.select b3 (Ideal.ofBits .bf16 0x0000#16 - tab b0 b1 b2) (tab b0 b1 b2)

theorem lit6 : Ideal.ofBits .bf16 0x40C0#16 = ((6 : ℝ) : EReal) := by
  simp [Ideal.ofBits, Ideal.ieee, -EReal.coe_mul]; norm_num [zpow_neg, -EReal.coe_mul]
theorem lit4 : Ideal.ofBits .bf16 0x4080#16 = ((4 : ℝ) : EReal) := by
  simp [Ideal.ofBits, Ideal.ieee, -EReal.coe_mul]; norm_num [zpow_neg, -EReal.coe_mul]
theorem lit3 : Ideal.ofBits .bf16 0x4040#16 = ((3 : ℝ) : EReal) := by
  simp [Ideal.ofBits, Ideal.ieee, -EReal.coe_mul]; norm_num [zpow_neg, -EReal.coe_mul]
theorem lit2 : Ideal.ofBits .bf16 0x4000#16 = ((2 : ℝ) : EReal) := by
  simp [Ideal.ofBits, Ideal.ieee, -EReal.coe_mul]; norm_num [zpow_neg, -EReal.coe_mul]
theorem lit32 : Ideal.ofBits .bf16 0x3FC0#16 = ((3 / 2 : ℝ) : EReal) := by
  simp [Ideal.ofBits, Ideal.ieee, -EReal.coe_mul]; norm_num [zpow_neg, -EReal.coe_mul]
theorem lit1 : Ideal.ofBits .bf16 0x3F80#16 = ((1 : ℝ) : EReal) := by
  simp [Ideal.ofBits, Ideal.ieee, -EReal.coe_mul]; norm_num [zpow_neg, -EReal.coe_mul]
theorem lit12 : Ideal.ofBits .bf16 0x3F00#16 = ((1 / 2 : ℝ) : EReal) := by
  simp [Ideal.ofBits, Ideal.ieee, -EReal.coe_mul]; norm_num [zpow_neg, -EReal.coe_mul]
theorem lit0 : Ideal.ofBits .bf16 0x0000#16 = ((0 : ℝ) : EReal) := by
  simp [Ideal.ofBits, Ideal.ieee]

/-- The signed table is the four-bit float. -/
theorem signed_ofBool (b0 b1 b2 b3 : Bool) :
    signed (BitVec.ofBool b0) (BitVec.ofBool b1) (BitVec.ofBool b2) (BitVec.ofBool b3) = ((e2m1 b0 b1 b2 b3 : ℝ) : EReal) := by
  unfold signed tab
  rw [lit6, lit4, lit3, lit2, lit32, lit1, lit12, lit0]
  cases b0 <;> cases b1 <;> cases b2 <;> cases b3 <;>
    simp [Scalar.select, e2m1, mag]

/-- Bit `b` of the low half of the byte `c`, as the reference tests it. -/
def bitLo (c : BitVec 8) (b : BitVec 32) : BitVec 1 :=
  IntOp.cmpi .ne (IntOp.andi (IntOp.andi (BitVec.setWidth 32 c) 15#32) b) 0#32

/-- Bit `b` of the high half of the byte `c`. -/
def bitHi (c : BitVec 8) (b : BitVec 32) : BitVec 1 :=
  IntOp.cmpi .ne (IntOp.andi (IntOp.shrsi .vector (BitVec.setWidth 32 c) 4#32) b) 0#32

theorem bitLo_eq (c : BitVec 8) :
    bitLo c 1#32 = BitVec.ofBool (c.getLsbD 0) ∧ bitLo c 2#32 = BitVec.ofBool (c.getLsbD 1)
      ∧ bitLo c 4#32 = BitVec.ofBool (c.getLsbD 2) ∧ bitLo c 8#32 = BitVec.ofBool (c.getLsbD 3) := by
  revert c; decide +kernel

theorem bitHi_eq (c : BitVec 8) :
    bitHi c 1#32 = BitVec.ofBool (c.getLsbD 4) ∧ bitHi c 2#32 = BitVec.ofBool (c.getLsbD 5)
      ∧ bitHi c 4#32 = BitVec.ofBool (c.getLsbD 6) ∧ bitHi c 8#32 = BitVec.ofBool (c.getLsbD 7) := by
  revert c; decide +kernel

theorem signed_lo (c : BitVec 8) : signed (bitLo c 1#32) (bitLo c 2#32) (bitLo c 4#32) (bitLo c 8#32) = ((loV c : ℝ) : EReal) := by
  obtain ⟨h0, h1, h2, h3⟩ := bitLo_eq c
  rw [h0, h1, h2, h3, signed_ofBool, loV]

theorem signed_hi (c : BitVec 8) : signed (bitHi c 1#32) (bitHi c 2#32) (bitHi c 4#32) (bitHi c 8#32) = ((hiV c : ℝ) : EReal) := by
  obtain ⟨h0, h1, h2, h3⟩ := bitHi_eq c
  rw [h0, h1, h2, h3, signed_ofBool, hiV]

variable {R : Nat}

/-- A row of 640 numbers, eight at a time under one scale. -/
theorem grouped (v : (⟨2, ![R, 640]⟩ : Shape).Idx → EReal) (s : (⟨2, ![R, 80]⟩ : Shape).Idx → EReal)
    (h1 : (⟨2, ![R, 640]⟩ : Shape).ShapeCasts ⟨3, ![R, 80, 8]⟩) (h2 : (⟨2, ![R, 80]⟩ : Shape).ShapeCasts ⟨3, ![R, 80, 1]⟩)
    (h3 : (⟨3, ![R, 80, 1]⟩ : Shape).Broadcasts ⟨3, ![R, 80, 8]⟩) (h4 : (⟨3, ![R, 80, 8]⟩ : Shape).ShapeCasts ⟨2, ![R, 640]⟩)
    (r : Fin R) (j : Fin 640) :
    shapeCast ⟨2, ![R, 640]⟩ (mulf (F := Ideal) (φ := .bf16) (shapeCast ⟨3, ![R, 80, 8]⟩ v h1)
      (broadcastTo ⟨3, ![R, 80, 8]⟩ (shapeCast ⟨3, ![R, 80, 1]⟩ s h2) h3)) h4 (ValueIdx.ix2 r j)
      = v (ValueIdx.ix2 r j) * s (ValueIdx.ix2 r ⟨j.val / 8, by omega⟩) := by
  have hj := j.isLt
  have hr := r.isLt
  refine (shapeCast_apply _ h4 (ValueIdx.ix2 r j) (ValueIdx.ix3 r (⟨j.val / 8, by omega⟩ : Fin 80) (⟨j.val % 8, by omega⟩ : Fin 8)) ?_).trans ?_
  · rw [Shape.rowMajor_val_three, Shape.rowMajor_val_two]
    show (r.val * 80 + j.val / 8) * 8 + j.val % 8 = r.val * 640 + j.val
    omega
  refine congrArg₂ (fun a b : EReal => a * b) ?_ ?_
  · refine shapeCast_apply v h1 _ (ValueIdx.ix2 r j) ?_
    rw [Shape.rowMajor_val_three, Shape.rowMajor_val_two]
    show r.val * 640 + j.val = (r.val * 80 + j.val / 8) * 8 + j.val % 8
    omega
  · refine (broadcastTo_apply _ h3 _ (ValueIdx.ix3 r (⟨j.val / 8, by omega⟩ : Fin 80) (0 : Fin 1)) ?_).trans ?_
    · intro a
      match a with
      | ⟨0, _⟩ =>
        show r.val = if R = 1 then 0 else r.val
        split <;> omega
      | ⟨1, _⟩ => rfl
      | ⟨2, _⟩ => rfl
    · refine shapeCast_apply s h2 _ _ ?_
      rw [Shape.rowMajor_val_three, Shape.rowMajor_val_two]
      show r.val * 80 + j.val / 8 = (r.val * 80 + j.val / 8) * 1 + 0
      omega

end Cert.Decode
-- ==== Proof.RefHalves.lean ====
module

public import proofs.«01_k».proof.Proof.RefDecode
public import proofs.«01_k».proof.Proof.Gen.ReferenceIdeal.Skeleton

@[expose] public section

set_option maxRecDepth 16384

noncomputable section

/-!
The reference's arithmetic, entry by entry: the two halves of the two operands, and the product of them.
-/

namespace Cert.Decode

open Idealize.ShloMosaic Cert.ReferenceIdeal Cert.ReferenceIdeal.Gen

/-- The low halves of the left operand. -/
def lhsLo (x : Vec Ideal S4096x640 .i8) (s : Vec Ideal S4096x80 .fp8e4m3) : FVec Ideal S4096x640 .bf16 :=
  k0_pay11 (F := Ideal) (k0_pay3 s) (k0_pay7 (F := Ideal) x) (k0_pay8 (F := Ideal) x) (k0_pay9 x) (k0_pay10 x)

/-- The high halves of the left operand. -/
def lhsHi (x : Vec Ideal S4096x640 .i8) (s : Vec Ideal S4096x80 .fp8e4m3) : FVec Ideal S4096x640 .bf16 :=
  k0_pay15 (F := Ideal) (k0_pay3 s) (k0_pay13 (k0_pay2 (F := Ideal) x)) (k0_pay14 (k0_pay2 (F := Ideal) x)) (Scalar.ofBits .bf16 0x0000#16)

/-- The low halves of the weight. -/
def wtLo (x : Vec Ideal S16384x640 .i8) (s : Vec Ideal S16384x80 .fp8e4m3) : FVec Ideal S16384x640 .bf16 :=
  k0_pay25 (F := Ideal) (k0_pay17 s) (k0_pay19 (F := Ideal) x) (k0_pay20 (F := Ideal) x) (k0_pay21 (F := Ideal) x) (k0_pay22 (F := Ideal) x) (k0_pay23 x) (k0_pay24 x)
    (Scalar.ofBits .bf16 0x3F00#16)

theorem lhsLo_apply (x : Vec Ideal S4096x640 .i8) (s : Vec Ideal S4096x80 .fp8e4m3) (r : Fin 4096) (j : Fin 640) :
    lhsLo x s (ValueIdx.ix2 r j) = ((loV (x (ValueIdx.ix2 r j)) : ℝ) : EReal) * (s (ValueIdx.ix2 r ⟨j.val / 8, by omega⟩) : EReal) := by
  unfold lhsLo k0_pay11 k0_pay3
  refine (grouped _ _ _ _ _ _ r j).trans ?_
  refine congrArg₂ (fun a b : EReal => a * b) ?_ ?_
  · refine Eq.trans ?_ (signed_lo (x (ValueIdx.ix2 r j)))
    have hx : shapeCast S4096x640 x shapeCasts_S4096x640_S4096x640 = x := shapeCast_self x _
    unfold k0_pay9 k0_pay10 k0_pay8 k0_pay7 k0_pay6 k0_pay5 k0_pay4 k0_pay2
    rw [hx]
    rfl
  · have hs : shapeCast S4096x80 s shapeCasts_S4096x80_S4096x80 = s := shapeCast_self s _
    rw [hs]
    rfl

theorem lhsHi_apply (x : Vec Ideal S4096x640 .i8) (s : Vec Ideal S4096x80 .fp8e4m3) (r : Fin 4096) (j : Fin 640) :
    lhsHi x s (ValueIdx.ix2 r j) = ((hiV (x (ValueIdx.ix2 r j)) : ℝ) : EReal) * (s (ValueIdx.ix2 r ⟨j.val / 8, by omega⟩) : EReal) := by
  unfold lhsHi k0_pay15 k0_pay3
  refine (grouped _ _ _ _ _ _ r j).trans ?_
  refine congrArg₂ (fun a b : EReal => a * b) ?_ ?_
  · refine Eq.trans ?_ (signed_hi (x (ValueIdx.ix2 r j)))
    have hx : shapeCast S4096x640 x shapeCasts_S4096x640_S4096x640 = x := shapeCast_self x _
    unfold k0_pay14 k0_pay13 k0_pay12 k0_pay2
    rw [hx]
    rfl
  · have hs : shapeCast S4096x80 s shapeCasts_S4096x80_S4096x80 = s := shapeCast_self s _
    rw [hs]
    rfl

theorem wtLo_apply (x : Vec Ideal S16384x640 .i8) (s : Vec Ideal S16384x80 .fp8e4m3) (r : Fin 16384) (j : Fin 640) :
    wtLo x s (ValueIdx.ix2 r j) = ((loV (x (ValueIdx.ix2 r j)) : ℝ) : EReal) * (s (ValueIdx.ix2 r ⟨j.val / 8, by omega⟩) : EReal) := by
  unfold wtLo k0_pay25 k0_pay17
  refine (grouped _ _ _ _ _ _ r j).trans ?_
  refine congrArg₂ (fun a b : EReal => a * b) ?_ rfl
  refine Eq.trans ?_ (signed_lo (x (ValueIdx.ix2 r j)))
  unfold k0_pay24 k0_pay23 k0_pay22 k0_pay21 k0_pay20 k0_pay19 k0_pay18 k0_pay16
  rfl

/-- The matrix product of two halves, rows against rows. -/
theorem refMat (d : FVec Ideal S4096x640 .bf16) (w : FVec Ideal S16384x640 .bf16) (r : Fin 4096) (n : Fin 16384) :
    matmul (F := Ideal) dot_S4096x640_S16384x640_S4096x16384_1_1_0_0_n_n none d w (constant (F := Ideal) S4096x16384 .f32 0x00000000#32) (ValueIdx.ix2 r n)
      = ∑ k : Fin 640, d (ValueIdx.ix2 r k) * w (ValueIdx.ix2 n k) := by
  pointwise
  rfl

/-- The reference's result on its six operands. -/
def refOut (x : Vec Ideal S4096x640 .i8) (s : Vec Ideal S4096x80 .fp8e4m3) (y : Vec Ideal S16384x640 .i8) (t : Vec Ideal S16384x80 .fp8e4m3)
    (g w : EReal) : FVec Ideal S4096x16384 .bf16 :=
  k0_pay1 (F := Ideal) (lhsLo x s) (lhsHi x s) (k0_pay17 t) (wtLo y t) (k0_pay27 (k0_pay16 (F := Ideal) y)) (k0_pay28 (k0_pay16 (F := Ideal) y))
    (k0_pay29 (k0_pay16 (F := Ideal) y)) (k0_pay30 (k0_pay16 (F := Ideal) y)) (k0_pay31 (k0_pay16 (F := Ideal) y)) (k0_pay32 (k0_pay16 (F := Ideal) y))
    (Scalar.ofBits .bf16 0x0000#16) k0_pay33 g w

/-- The reference's result, entry by entry: low halves against low halves and high against high, times the two global scales. -/
theorem refOut_apply (x : Vec Ideal S4096x640 .i8) (s : Vec Ideal S4096x80 .fp8e4m3) (y : Vec Ideal S16384x640 .i8) (t : Vec Ideal S16384x80 .fp8e4m3)
    (g w : EReal) (r : Fin 4096) (n : Fin 16384) :
    refOut x s y t g w (ValueIdx.ix2 r n)
      = (((∑ j : Fin 640, (((loV (x (ValueIdx.ix2 r j)) : ℝ) : EReal) * (s (ValueIdx.ix2 r ⟨j.val / 8, by omega⟩) : EReal))
            * (((loV (y (ValueIdx.ix2 n j)) : ℝ) : EReal) * (t (ValueIdx.ix2 n ⟨j.val / 8, by omega⟩) : EReal)))
          + ∑ j : Fin 640, (((hiV (x (ValueIdx.ix2 r j)) : ℝ) : EReal) * (s (ValueIdx.ix2 r ⟨j.val / 8, by omega⟩) : EReal))
            * (((hiV (y (ValueIdx.ix2 n j)) : ℝ) : EReal) * (t (ValueIdx.ix2 n ⟨j.val / 8, by omega⟩) : EReal))) * g) * w := by
  unfold refOut k0_pay1
  refine congrArg (fun a : EReal => a * w) (congrArg (fun a : EReal => a * g) (congrArg₂ (fun a b : EReal => a + b) ?_ ?_))
  · exact (refMat _ _ r n).trans (Finset.sum_congr rfl fun j _ => congrArg₂ (fun a b : EReal => a * b) (lhsLo_apply x s r j) (wtLo_apply y t n j))
  · refine (refMat _ _ r n).trans (Finset.sum_congr rfl fun j _ => congrArg₂ (fun a b : EReal => a * b) (lhsHi_apply x s r j) ?_)
    unfold k0_pay17
    refine (grouped _ _ _ _ _ _ n j).trans ?_
    refine congrArg₂ (fun a b : EReal => a * b) ?_ rfl
    refine Eq.trans ?_ (signed_hi (y (ValueIdx.ix2 n j)))
    unfold k0_pay33 k0_pay32 k0_pay31 k0_pay30 k0_pay29 k0_pay28 k0_pay27 k0_pay26 k0_pay16
    rfl

end Cert.Decode
-- ==== Proof.RefValue.lean ====
module

public import proofs.«01_k».proof.Proof.Gen.ReferenceIdeal.Frame
public import proofs.«01_k».proof.Proof.RefHalves
public import Idealize.ShloMosaic.Lib.StableHlo.Run
public import Idealize.ShloMosaic.Lib.Pipeline.Value
public import Idealize.ShloMosaic.Lib.WholeRead
public import Idealize.ShloMosaic.Lib.VecWindow

@[expose] public section

set_option maxRecDepth 16384

noncomputable section

/-!
What the reference's result array ends holding: its one block is the whole array, computed from the whole operands.
-/

namespace Cert.ReferenceIdeal.Val

open Cert.Decode
open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The one block, read back -/

/-- A whole load of a buffer that holds `X` is `X`. -/
theorem load_whole {e : EltTy} {s : Shape} {sp : Space} {arg : Memref sig .tc sp s e} (harg : arg.IsWhole)
    (X : s.Idx → Elt Ideal e) {off : Fin s.rank → ℕ} (inb : ∀ a, off a + s.size a ≤ s.size a) :
    arg.view.readAt (Elt Ideal) (Rect.unit (s := s) off s.size inb).toLoadRect (harg.unread X) = X :=
  (View.readAt_full arg.view _ inb).trans (harg.read_unread X)

/-- A whole store reads back as what it stored. -/
theorem read_whole {e : EltTy} {s : Shape} {sp : Space} (v : View sig .tc sp s e) {off : Fin s.rank → ℕ} (inb : ∀ a, off a + s.size a ≤ s.size a)
    (f : v.ty.Contents (Elt Ideal)) (w : s.Idx → Elt Ideal e) :
    v.read (Elt Ideal) (v.writes (Elt Ideal) f [⟨Rect.unit off s.size inb, w⟩]) = w := by
  funext y
  exact View.read_writes_cons_unit_of_mem v f inb w [] y y rfl fun a => by have := inb a; omega

theorem S1_pos : 0 < S1.numel := by decide

set_option backward.proofsInPublic true in
/-- The one store of the body. -/
theorem run_out (c : Dev nD) (arg0 : Memref sig .tc .vmem S4096x640 .i8) (harg0 : arg0.IsWhole) (arg1 : Memref sig .tc .vmem S4096x80 .fp8e4m3) (harg1 : arg1.IsWhole) (arg2 : Memref sig .tc .smem S1 .f32) (harg2 : arg2.IsWhole) (arg3 : Memref sig .tc .vmem S16384x640 .i8) (harg3 : arg3.IsWhole) (arg4 : Memref sig .tc .vmem S16384x80 .fp8e4m3) (harg4 : arg4.IsWhole) (arg5 : Memref sig .tc .smem S1 .f32) (harg5 : arg5.IsWhole) (arg6 : Memref sig .tc .vmem S4096x16384 .bf16) (harg6 : arg6.IsWhole) (x0 : Vec Ideal S4096x640 .i8) (x1 : Vec Ideal S4096x80 .fp8e4m3) (x2 : Vec Ideal S1 .f32) (x3 : Vec Ideal S16384x640 .i8) (x4 : Vec Ideal S16384x80 .fp8e4m3) (x5 : Vec Ideal S1 .f32) :
    (kernelRun0_A (F := Ideal) c arg0 harg0 arg1 harg1 arg2 harg2 arg3 harg3 arg4 harg4 arg5 harg5 arg6 harg6 x0 x1 x2 x3 x4 x5).1
      = [⟨Rect.unit (s := S4096x16384) ![0, 0] S4096x16384.size inb_S4096x16384_S4096x16384_0_0,
          refOut (arg0.view.readAt (Elt Ideal) (Rect.unit (s := S4096x640) ![0, 0] S4096x640.size inb_S4096x640_S4096x640_0_0).toLoadRect (harg0.unread x0))
            (arg1.view.readAt (Elt Ideal) (Rect.unit (s := S4096x80) ![0, 0] S4096x80.size inb_S4096x80_S4096x80_0_0).toLoadRect (harg1.unread x1))
            (arg3.view.readAt (Elt Ideal) (Rect.unit (s := S16384x640) ![0, 0] S16384x640.size inb_S16384x640_S16384x640_0_0).toLoadRect (harg3.unread x3))
            (arg4.view.readAt (Elt Ideal) (Rect.unit (s := S16384x80) ![0, 0] S16384x80.size inb_S16384x80_S16384x80_0_0).toLoadRect (harg4.unread x4))
            (arg2.view.readAt (Elt Ideal) (Rect.unit (s := S1) ![0] S1.size inb_S1_S1_0).toLoadRect (harg2.unread x2) (Shape.Idx.first (s := S1) S1_pos))
            (arg5.view.readAt (Elt Ideal) (Rect.unit (s := S1) ![0] S1.size inb_S1_S1_0).toLoadRect (harg5.unread x5) (Shape.Idx.first (s := S1) S1_pos))⟩] := by
  unfold kernelRun0_A
  rfl

/-- The block the body leaves. -/
theorem out_eq (c : Dev nD) (arg0 : Memref sig .tc .vmem S4096x640 .i8) (harg0 : arg0.IsWhole) (arg1 : Memref sig .tc .vmem S4096x80 .fp8e4m3) (harg1 : arg1.IsWhole) (arg2 : Memref sig .tc .smem S1 .f32) (harg2 : arg2.IsWhole) (arg3 : Memref sig .tc .vmem S16384x640 .i8) (harg3 : arg3.IsWhole) (arg4 : Memref sig .tc .vmem S16384x80 .fp8e4m3) (harg4 : arg4.IsWhole) (arg5 : Memref sig .tc .smem S1 .f32) (harg5 : arg5.IsWhole) (arg6 : Memref sig .tc .vmem S4096x16384 .bf16) (harg6 : arg6.IsWhole) (x0 : Vec Ideal S4096x640 .i8) (x1 : Vec Ideal S4096x80 .fp8e4m3) (x2 : Vec Ideal S1 .f32) (x3 : Vec Ideal S16384x640 .i8) (x4 : Vec Ideal S16384x80 .fp8e4m3) (x5 : Vec Ideal S1 .f32) :
    out0_A_6 (F := Ideal) c arg0 harg0 arg1 harg1 arg2 harg2 arg3 harg3 arg4 harg4 arg5 harg5 arg6 harg6 x0 x1 x2 x3 x4 x5
      = refOut x0 x1 x3 x4 (x2 (Shape.Idx.first (s := S1) S1_pos)) (x5 (Shape.Idx.first (s := S1) S1_pos)) := by
  unfold out0_A_6
  rw [run_out, read_whole, load_whole, load_whole, load_whole, load_whole, load_whole, load_whole]

/-! ## Every window is the whole array -/

theorem idx0 : ∀ t : Fin cfg0.N, win0_0.index t (0 : Fin 2) = 0 ∧ win0_0.index t (1 : Fin 2) = 0 :=
  (by decide +kernel : ∀ t : Fin grid0.N, _)
theorem emb0 (t : Fin cfg0.N) (y : S4096x640.Idx) : ((cfg0.win 0).blk t).view.emb y = y := by
  have hi := idx0 t
  refine funext fun b => ?_
  match b with
  | ⟨0, _⟩ => exact Fin.ext (by
      change win0_0.index t (0 : Fin 2) * 4096 + 1 * (y 0).val = (y 0).val
      omega)
  | ⟨1, _⟩ => exact Fin.ext (by
      change win0_0.index t (1 : Fin 2) * 640 + 1 * (y 1).val = (y 1).val
      omega)
theorem iblk0_eq (c : Dev nD) (t : Fin cfg0.N) : (iblk (F := Ideal) m c 0 t : Vec Ideal S4096x640 .i8) = V m c main_v0 :=
  funext fun y => congrArg (V m c main_v0) (emb0 t y)

theorem idx1 : ∀ t : Fin cfg0.N, win0_1.index t (0 : Fin 2) = 0 ∧ win0_1.index t (1 : Fin 2) = 0 :=
  (by decide +kernel : ∀ t : Fin grid0.N, _)
theorem emb1 (t : Fin cfg0.N) (y : S4096x80.Idx) : ((cfg0.win 1).blk t).view.emb y = y := by
  have hi := idx1 t
  refine funext fun b => ?_
  match b with
  | ⟨0, _⟩ => exact Fin.ext (by
      change win0_1.index t (0 : Fin 2) * 4096 + 1 * (y 0).val = (y 0).val
      omega)
  | ⟨1, _⟩ => exact Fin.ext (by
      change win0_1.index t (1 : Fin 2) * 80 + 1 * (y 1).val = (y 1).val
      omega)
theorem iblk1_eq (c : Dev nD) (t : Fin cfg0.N) : (iblk (F := Ideal) m c 1 t : Vec Ideal S4096x80 .fp8e4m3) = V m c main_v1 :=
  funext fun y => congrArg (V m c main_v1) (emb1 t y)

theorem idx2 : ∀ t : Fin cfg0.N, win0_2.index t (0 : Fin 1) = 0 :=
  (by decide +kernel : ∀ t : Fin grid0.N, _)
theorem emb2 (t : Fin cfg0.N) (y : S1.Idx) : ((cfg0.win 2).blk t).view.emb y = y := by
  have hi := idx2 t
  refine funext fun b => ?_
  match b with
  | ⟨0, _⟩ => exact Fin.ext (by
      change win0_2.index t (0 : Fin 1) * 1 + 1 * (y 0).val = (y 0).val
      omega)
theorem iblk2_eq (c : Dev nD) (t : Fin cfg0.N) : (iblk (F := Ideal) m c 2 t : Vec Ideal S1 .f32) = V m c main_arg2 :=
  funext fun y => congrArg (V m c main_arg2) (emb2 t y)

theorem idx3 : ∀ t : Fin cfg0.N, win0_3.index t (0 : Fin 2) = 0 ∧ win0_3.index t (1 : Fin 2) = 0 :=
  (by decide +kernel : ∀ t : Fin grid0.N, _)
theorem emb3 (t : Fin cfg0.N) (y : S16384x640.Idx) : ((cfg0.win 3).blk t).view.emb y = y := by
  have hi := idx3 t
  refine funext fun b => ?_
  match b with
  | ⟨0, _⟩ => exact Fin.ext (by
      change win0_3.index t (0 : Fin 2) * 16384 + 1 * (y 0).val = (y 0).val
      omega)
  | ⟨1, _⟩ => exact Fin.ext (by
      change win0_3.index t (1 : Fin 2) * 640 + 1 * (y 1).val = (y 1).val
      omega)
theorem iblk3_eq (c : Dev nD) (t : Fin cfg0.N) : (iblk (F := Ideal) m c 3 t : Vec Ideal S16384x640 .i8) = V m c main_arg3 :=
  funext fun y => congrArg (V m c main_arg3) (emb3 t y)

theorem idx4 : ∀ t : Fin cfg0.N, win0_4.index t (0 : Fin 2) = 0 ∧ win0_4.index t (1 : Fin 2) = 0 :=
  (by decide +kernel : ∀ t : Fin grid0.N, _)
theorem emb4 (t : Fin cfg0.N) (y : S16384x80.Idx) : ((cfg0.win 4).blk t).view.emb y = y := by
  have hi := idx4 t
  refine funext fun b => ?_
  match b with
  | ⟨0, _⟩ => exact Fin.ext (by
      change win0_4.index t (0 : Fin 2) * 16384 + 1 * (y 0).val = (y 0).val
      omega)
  | ⟨1, _⟩ => exact Fin.ext (by
      change win0_4.index t (1 : Fin 2) * 80 + 1 * (y 1).val = (y 1).val
      omega)
theorem iblk4_eq (c : Dev nD) (t : Fin cfg0.N) : (iblk (F := Ideal) m c 4 t : Vec Ideal S16384x80 .fp8e4m3) = V m c main_arg4 :=
  funext fun y => congrArg (V m c main_arg4) (emb4 t y)

theorem idx5 : ∀ t : Fin cfg0.N, win0_5.index t (0 : Fin 1) = 0 :=
  (by decide +kernel : ∀ t : Fin grid0.N, _)
theorem emb5 (t : Fin cfg0.N) (y : S1.Idx) : ((cfg0.win 5).blk t).view.emb y = y := by
  have hi := idx5 t
  refine funext fun b => ?_
  match b with
  | ⟨0, _⟩ => exact Fin.ext (by
      change win0_5.index t (0 : Fin 1) * 1 + 1 * (y 0).val = (y 0).val
      omega)
theorem iblk5_eq (c : Dev nD) (t : Fin cfg0.N) : (iblk (F := Ideal) m c 5 t : Vec Ideal S1 .f32) = V m c main_arg5 :=
  funext fun y => congrArg (V m c main_arg5) (emb5 t y)

theorem idx6 : ∀ t : Fin cfg0.N, win0_6.index t (0 : Fin 2) = 0 ∧ win0_6.index t (1 : Fin 2) = 0 :=
  (by decide +kernel : ∀ t : Fin grid0.N, _)
theorem emb6 (t : Fin cfg0.N) (y : S4096x16384.Idx) : ((cfg0.win 6).blk t).view.emb y = y := by
  have hi := idx6 t
  refine funext fun b => ?_
  match b with
  | ⟨0, _⟩ => exact Fin.ext (by
      change win0_6.index t (0 : Fin 2) * 4096 + 1 * (y 0).val = (y 0).val
      omega)
  | ⟨1, _⟩ => exact Fin.ext (by
      change win0_6.index t (1 : Fin 2) * 16384 + 1 * (y 1).val = (y 1).val
      omega)

/-- The gradient's codes as the region finds them: the argument with its two leading axes joined. -/
theorem V_main_v0 (c : Dev nD) :
    V m c main_v0 = shapeCast S4096x640 (m ((c : Thread nD τ).loc main_arg0)) shapeCasts_S2x2048x640_S4096x640 := by
  show StableHlo.after hostOps0 _ (Proc.devRef .tc main_v0) = _
  after_results
  rfl

/-- The gradient's scales as the region finds them. -/
theorem V_main_v1 (c : Dev nD) :
    V m c main_v1 = shapeCast S4096x80 (m ((c : Thread nD τ).loc main_arg1)) shapeCasts_S2x2048x80_S4096x80 := by
  show StableHlo.after hostOps0 _ (Proc.devRef .tc main_v1) = _
  after_results
  rfl

/-- What the result array ends holding. -/
def result (c : Dev nD) : Buf (Elt Ideal) ((c : Thread nD τ).loc main_v2) :=
  refOut (V m c main_v0) (V m c main_v1) (V m c main_arg3) (V m c main_arg4)
    (V m c main_arg2 (Shape.Idx.first (s := S1) S1_pos)) (V m c main_arg5 (Shape.Idx.first (s := S1) S1_pos))

theorem out_result (c : Dev nD) (t : Fin cfg0.N) : outsAt0 (F := Ideal) m c t = result m c := by
  unfold outsAt0
  rw [out_eq, iblk0_eq, iblk1_eq, iblk2_eq, iblk3_eq, iblk4_eq, iblk5_eq]
  rfl

/-- What the one point writes back. -/
theorem flushed6_eq (c : Dev nD) (t : Fin cfg0.N) (hf : (cfg0.win 6).flush t = true) :
    (dats m 0 c).flushed 6 t = ((cfg0.win 6).blk t).view.read (Elt Ideal) (result m c) := by
  show (cfg0.win 6).cut (grid0.coords t) ((dats m 0 c).after 6 t) = _
  rw [after0_6, out_result]
  funext y
  exact (congrArg (result m c) (emb6 t y)).symm

/-- The one block is the whole array. -/
theorem covers (t : Fin cfg0.N) (i : S4096x16384.Idx) : i ∈ ((cfg0.win 6).blk t).view.set := by
  show i ∈ ((View.whole main_v2).slice (win0_6.rect t)).set
  rw [View.set_slice_whole, Rect.mem_set_unit]
  intro a
  have hi := idx6 t
  have h0 : (i 0).val < 4096 := (i 0).isLt
  have h1 : (i 1).val < 16384 := (i 1).isLt
  match a with
  | ⟨0, _⟩ => show win0_6.index t (0 : Fin 2) * 4096 ≤ (i 0).val ∧ (i 0).val < win0_6.index t (0 : Fin 2) * 4096 + 4096; omega
  | ⟨1, _⟩ => show win0_6.index t (1 : Fin 2) * 16384 ≤ (i 1).val ∧ (i 1).val < win0_6.index t (1 : Fin 2) * 16384 + 16384; omega

/-- The result array after the run. -/
theorem final6 (c : Dev nD) : (dats m 0 c).arrAt 6 cfg0.N = result m c :=
  (dats m 0 c).arrAt_eq_of_cover 6 _ (fun t hf => flushed6_eq m c t hf) (fun i =>
    ⟨⟨0, by decide⟩, flush0_6 _, covers _ i⟩)

/-! ## The run, read -/

/-- The result array is the output's array. -/
theorem post6 (r : PUnit × MemSt nD τ sig (Elt Ideal)) (h : Pipeline.FramePost cfgs (dats m) 0 (V m) r) (c : Dev nD) :
    r.2.mem ((c : Thread nD τ).loc main_v2) = (dats m 0 c).arrAt 6 cfg0.N :=
  (h c).1 6

/-- The argument is as launched. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- The argument is as launched. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The argument is as launched. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The argument is as launched. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The argument is as launched. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The argument is as launched. -/
theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- Every run ends with the reference's result in the result array and the arguments unchanged. -/
theorem run_value : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      kept_main_arg0 m r h c,
      kept_main_arg1 m r h c,
      kept_main_arg2 m r h c,
      kept_main_arg3 m r h c,
      kept_main_arg4 m r h c,
      kept_main_arg5 m r h c⟩)
    (run_main m ρ)

end Cert.ReferenceIdeal.Val

end
-- ==== Proof.Equation.lean ====
module

public import proofs.«01_k».proof.Proof.Product
public import proofs.«01_k».proof.Proof.RefHalves

@[expose] public section

set_option maxRecDepth 16384

noncomputable section

/-!
The equation between the two results. The kernel decodes each four-bit float over 64 and carries a factor of 4096
on the left operand's scales; the two divisions by 64 and the factor cancel. Its one sum of 1280 terms is the reference's
two sums of 640.
-/

namespace Cert.Decode

open Idealize.ShloMosaic Cert.ReferenceIdeal

/-- One term: the two divisions by 64 and the factor 4096 cancel. -/
theorem term_eq (a b : ℝ) (s t : EReal) :
    (((a / 64 : ℝ) : EReal) * (s * G)) * (((b / 64 : ℝ) : EReal) * t) = (((a : ℝ) : EReal) * s) * (((b : ℝ) : EReal) * t) := by
  have h : ((a / 64 : ℝ) : EReal) * ((b / 64 : ℝ) : EReal) * G = ((a : ℝ) : EReal) * ((b : ℝ) : EReal) := by
    rw [G_eq, ← EReal.coe_mul, ← EReal.coe_mul, ← EReal.coe_mul]
    congr 1
    ring
  calc (((a / 64 : ℝ) : EReal) * (s * G)) * (((b / 64 : ℝ) : EReal) * t)
      = (((a / 64 : ℝ) : EReal) * ((b / 64 : ℝ) : EReal) * G) * (s * t) := by ac_rfl
    _ = (((a : ℝ) : EReal) * ((b : ℝ) : EReal)) * (s * t) := by rw [h]
    _ = _ := by ac_rfl

/-- A position in the first 640 of a decoded row. -/
theorem decoded_lo (x : Fin 640 → BitVec 8) (s : Fin 128 → EReal) (j : Fin 640) :
    decoded x s (Fin.castAdd 640 j : Fin (640 + 640)) = ((loV (x j) / 64 : ℝ) : EReal) * s ⟨j.val / 8, by omega⟩ := by
  have hj := j.isLt
  unfold decoded nib
  rw [dif_pos (show (Fin.castAdd 640 j : Fin (640 + 640)).val < 640 from hj)]
  refine congrArg₂ (fun a b : EReal => a * b) rfl (congrArg s (Fin.ext ?_))
  show j.val % 640 / 8 = j.val / 8
  omega

/-- A position in the last 640. -/
theorem decoded_hi (x : Fin 640 → BitVec 8) (s : Fin 128 → EReal) (j : Fin 640) :
    decoded x s (Fin.natAdd 640 j : Fin (640 + 640)) = ((hiV (x j) / 64 : ℝ) : EReal) * s ⟨j.val / 8, by omega⟩ := by
  have hj := j.isLt
  unfold decoded nib
  rw [dif_neg (show ¬ (Fin.natAdd 640 j : Fin (640 + 640)).val < 640 by rw [Fin.val_natAdd]; omega)]
  refine congrArg₂ (fun a b : EReal => a * b) ?_ (congrArg s (Fin.ext ?_))
  · have e : (⟨(Fin.natAdd 640 j : Fin (640 + 640)).val - 640, by rw [Fin.val_natAdd]; omega⟩ : Fin 640) = j :=
      Fin.ext (by show 640 + j.val - 640 = j.val; omega)
    exact congrArg (fun i : Fin 640 => ((hiV (x i) / 64 : ℝ) : EReal)) e
  · show (640 + j.val) % 640 / 8 = j.val / 8
    omega

/-- The kernel's product is the reference's result. -/
theorem product_eq (X : Vec Ideal S4096x640 .i8) (S : Vec Ideal S4096x80 .fp8e4m3) (Y : Vec Ideal S16384x640 .i8) (T : Vec Ideal S16384x80 .fp8e4m3)
    (g w : EReal) (r : Fin 4096) (n : Fin 16384) :
    product X S Y T g w r n = refOut X S Y T g w (ValueIdx.ix2 r n) := by
  rw [refOut_apply]
  unfold product
  refine congrArg (fun a : EReal => a * w) (congrArg (fun a : EReal => a * g) ?_)
  refine (Fin.sum_univ_add (a := 640) (b := 640) _).trans (congrArg₂ (fun a b : EReal => a + b) ?_ ?_)
  · refine Finset.sum_congr rfl fun j _ => ?_
    have hj : j.val / 8 < 80 := by have := j.isLt; omega
    refine (congrArg₂ (fun a b : EReal => a * b) (decoded_lo _ _ j) (decoded_lo _ _ j)).trans ?_
    rw [lanes_lt _ _ hj, lanes_lt _ _ hj]
    exact term_eq _ _ _ _
  · refine Finset.sum_congr rfl fun j _ => ?_
    have hj : j.val / 8 < 80 := by have := j.isLt; omega
    refine (congrArg₂ (fun a b : EReal => a * b) (decoded_hi _ _ j) (decoded_hi _ _ j)).trans ?_
    rw [lanes_lt _ _ hj, lanes_lt _ _ hj]
    exact term_eq _ _ _ _

end Cert.Decode
-- ==== Proof.Algebraic.lean ====
module

public import proofs.«01_k».proof.Proof.IdealValue
public import proofs.«01_k».proof.Proof.RefValue
public import proofs.«01_k».proof.Proof.Equation

@[expose] public section

set_option maxRecDepth 16384

noncomputable section

/-!
From memories that agree on the six arguments, the kernel's result array and the reference's end holding the same.
-/

namespace Cert.Decode

open Idealize.ShloMosaic Idealize.ShloMosaic.TcCoe

/-- The two results as functions of the arguments. -/
theorem kernel_result (m : (ℓ : Loc Cert.KernelIdeal.nD Cert.KernelIdeal.τ Cert.KernelIdeal.sig) → Buf (Elt Ideal) ℓ) (c : Dev Cert.KernelIdeal.nD) :
    Cert.KernelIdeal.Run.result m c = fun i =>
      product (shapeCast Cert.KernelIdeal.S4096x640 (m ((c : Thread Cert.KernelIdeal.nD Cert.KernelIdeal.τ).loc Cert.KernelIdeal.main_arg0)) Cert.KernelIdeal.Gen.facts.shapeCasts_S2x2048x640_S4096x640)
        (shapeCast Cert.KernelIdeal.S4096x80 (m ((c : Thread Cert.KernelIdeal.nD Cert.KernelIdeal.τ).loc Cert.KernelIdeal.main_arg1)) Cert.KernelIdeal.Gen.facts.shapeCasts_S2x2048x80_S4096x80)
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg2) (Shape.Idx.first (s := Cert.KernelIdeal.S1) Cert.KernelIdeal.Run.S1_pos))
        (m ((c : Thread Cert.KernelIdeal.nD Cert.KernelIdeal.τ).loc Cert.KernelIdeal.main_arg5) (Shape.Idx.first (s := Cert.KernelIdeal.S1) Cert.KernelIdeal.Run.S1_pos)) (i 0) (i 1) := by
  unfold Cert.KernelIdeal.Run.result
  rw [Cert.KernelIdeal.Run.V_main_v0, Cert.KernelIdeal.Run.V_main_v1, Cert.KernelIdeal.Gen.V_main_arg2, Cert.KernelIdeal.Gen.V_main_arg3,
    Cert.KernelIdeal.Gen.V_main_arg4, Cert.KernelIdeal.Gen.V_main_arg5]

theorem reference_result (m : (ℓ : Loc Cert.ReferenceIdeal.nD Cert.ReferenceIdeal.τ Cert.ReferenceIdeal.sig) → Buf (Elt Ideal) ℓ) (c : Dev Cert.ReferenceIdeal.nD) :
    Cert.ReferenceIdeal.Val.result m c =
      refOut (shapeCast Cert.ReferenceIdeal.S4096x640 (m ((c : Thread Cert.ReferenceIdeal.nD Cert.ReferenceIdeal.τ).loc Cert.ReferenceIdeal.main_arg0)) Cert.ReferenceIdeal.Gen.facts.shapeCasts_S2x2048x640_S4096x640)
        (shapeCast Cert.ReferenceIdeal.S4096x80 (m ((c : Thread Cert.ReferenceIdeal.nD Cert.ReferenceIdeal.τ).loc Cert.ReferenceIdeal.main_arg1)) Cert.ReferenceIdeal.Gen.facts.shapeCasts_S2x2048x80_S4096x80)
        (m ((c : Thread Cert.ReferenceIdeal.nD Cert.ReferenceIdeal.τ).loc Cert.ReferenceIdeal.main_arg3))
        (m ((c : Thread Cert.ReferenceIdeal.nD Cert.ReferenceIdeal.τ).loc Cert.ReferenceIdeal.main_arg4))
        (m ((c : Thread Cert.ReferenceIdeal.nD Cert.ReferenceIdeal.τ).loc Cert.ReferenceIdeal.main_arg2) (Shape.Idx.first (s := Cert.ReferenceIdeal.S1) Cert.ReferenceIdeal.Val.S1_pos))
        (m ((c : Thread Cert.ReferenceIdeal.nD Cert.ReferenceIdeal.τ).loc Cert.ReferenceIdeal.main_arg5) (Shape.Idx.first (s := Cert.ReferenceIdeal.S1) Cert.ReferenceIdeal.Val.S1_pos)) := by
  unfold Cert.ReferenceIdeal.Val.result
  rw [Cert.ReferenceIdeal.Val.V_main_v0, Cert.ReferenceIdeal.Val.V_main_v1, Cert.ReferenceIdeal.Gen.V_main_arg2, Cert.ReferenceIdeal.Gen.V_main_arg3,
    Cert.ReferenceIdeal.Gen.V_main_arg4, Cert.ReferenceIdeal.Gen.V_main_arg5]

/-- The two result arrays are the same array. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c : Thread Cert.ReferenceIdeal.nD Cert.ReferenceIdeal.τ).loc Cert.ReferenceIdeal.main_arg0) = m ((c : Thread Cert.KernelIdeal.nD Cert.KernelIdeal.τ).loc Cert.KernelIdeal.main_arg0)
      ∧ m' ((c : Thread Cert.ReferenceIdeal.nD Cert.ReferenceIdeal.τ).loc Cert.ReferenceIdeal.main_arg1) = m ((c : Thread Cert.KernelIdeal.nD Cert.KernelIdeal.τ).loc Cert.KernelIdeal.main_arg1)
      ∧ m' ((c : Thread Cert.ReferenceIdeal.nD Cert.ReferenceIdeal.τ).loc Cert.ReferenceIdeal.main_arg2) = m ((c : Thread Cert.KernelIdeal.nD Cert.KernelIdeal.τ).loc Cert.KernelIdeal.main_arg2)
      ∧ m' ((c : Thread Cert.ReferenceIdeal.nD Cert.ReferenceIdeal.τ).loc Cert.ReferenceIdeal.main_arg3) = m ((c : Thread Cert.KernelIdeal.nD Cert.KernelIdeal.τ).loc Cert.KernelIdeal.main_arg3)
      ∧ m' ((c : Thread Cert.ReferenceIdeal.nD Cert.ReferenceIdeal.τ).loc Cert.ReferenceIdeal.main_arg4) = m ((c : Thread Cert.KernelIdeal.nD Cert.KernelIdeal.τ).loc Cert.KernelIdeal.main_arg4)
      ∧ m' ((c : Thread Cert.ReferenceIdeal.nD Cert.ReferenceIdeal.τ).loc Cert.ReferenceIdeal.main_arg5) = m ((c : Thread Cert.KernelIdeal.nD Cert.KernelIdeal.τ).loc Cert.KernelIdeal.main_arg5)) :
    Cert.ReferenceIdeal.Val.result m' c = Cert.KernelIdeal.Run.result m c := by
  obtain ⟨h0, h1, h2, h3, h4, h5⟩ := h
  rw [kernel_result, reference_result, h0, h1, h2, h3, h4, h5]
  funext i
  obtain ⟨r, n, rfl⟩ : ∃ (r : Fin 4096) (n : Fin 16384), i = ValueIdx.ix2 r n := ⟨_, _, ValueIdx.eq_ix2 (n0 := 4096) (n1 := 16384) i⟩
  exact (product_eq _ _ _ _ _ _ r n).symm

end Cert.Decode
-- ==== Proof.lean ====
/-
The certificate: every run of the kernel ends, with its arguments unchanged and every semaphore at zero, at the chip's floats and
at the extended reals; so does every run of the reference; and over the extended reals the kernel's result is the reference's.

Modules: `DecodeBits`, `DecodeRows`, `DecodeKernel` — what the kernel's arithmetic decodes and multiplies, entry by entry;
`KernelRun*`, `KernelFrame`, `IdealRun*`, `IdealFrame` — the pipelined runs; `IdealPieces`, `IdealLanes`, `IdealValue` — what one block
computes and what the result array ends holding; `RefDecode`, `RefHalves`, `RefValue` — the same for the reference; `Product`, `Equation`,
`Algebraic` — the equation between the two.
-/
module

public import proofs.«01_k».proof.Defs
public import proofs.«01_k».proof.Proof.KernelFrame
public import proofs.«01_k».proof.Proof.Algebraic
public import Idealize.ShloMosaic.Adequacy
public import Idealize.ShloMosaic.Init

@[expose] public section

noncomputable section

namespace Cert.Proof

open Idealize.ShloMosaic Idealize.ShloMosaic.TcCoe Idealize.SL.Sem

theorem claim : Cert.Claim :=
  ⟨Cert.Kernel.Gen.facts, Cert.KernelIdeal.Gen.facts, Cert.ReferenceIdeal.Gen.facts,
    fun m g _ => Cert.Kernel.Run.frame m g,
    fun m g _ => Cert.KernelIdeal.Run.frame m g,
    fun m g _ => Cert.ReferenceIdeal.Gen.frame m g,
    trivial,
    fun m g m' g' _ h => ⟨fun c => Cert.KernelIdeal.Run.result m c,
      Cert.KernelIdeal.Run.run_value m g,
      (θ_run _ _ _).mono (fun _ hr c => ⟨(hr c).1.trans (Cert.Decode.results_eq m m' c (h c)), (hr c).2⟩)
        (Cert.ReferenceIdeal.Val.run_value m' g')⟩⟩

end Cert.Proof

end
